-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_KernelIdeal [hPre_finite_router_KernelIdeal : Cert.Pre_finite_router_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_ReferenceIdeal [hPre_finite_router_ReferenceIdeal : Cert.Pre_finite_router_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_KernelIdeal [hKernelIdeal : Cert.KernelIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_ReferenceIdeal [hReferenceIdeal : Cert.ReferenceIdeal.Facts] [hPre_finite_router_ReferenceIdeal : Cert.Pre_finite_router_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_KernelIdeal [hKernelIdeal : Cert.KernelIdeal.Facts] [hReferenceIdeal : Cert.ReferenceIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 512]⟩ ⟨2, ![1024, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_KernelIdeal : Cert.Pre_finite_router_KernelIdeal.Facts) (hPre_finite_router_ReferenceIdeal : Cert.Pre_finite_router_ReferenceIdeal.Facts),
    quiescent_Kernel (hKernel := hKernel)
    ∧ quiescent_KernelIdeal (hKernelIdeal := hKernelIdeal)
    ∧ quiescent_KernelIdeal_pre_finite_router_KernelIdeal (hKernelIdeal := hKernelIdeal) (hPre_finite_router_KernelIdeal := hPre_finite_router_KernelIdeal)
    ∧ quiescent_ReferenceIdeal (hReferenceIdeal := hReferenceIdeal)
    ∧ quiescent_ReferenceIdeal_pre_finite_router_ReferenceIdeal (hReferenceIdeal := hReferenceIdeal) (hPre_finite_router_ReferenceIdeal := hPre_finite_router_ReferenceIdeal)
    ∧ preserves_Kernel_KernelIdeal
    ∧ algebraic_KernelIdeal_ReferenceIdeal_pre_finite_router_KernelIdeal (hKernelIdeal := hKernelIdeal) (hReferenceIdeal := hReferenceIdeal) (hPre_finite_router_KernelIdeal := hPre_finite_router_KernelIdeal)
-- ==== Pre_finite_router_KernelIdeal.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  bcast_S_S256x16 : S_.BroadcastsInDim S256x16 (![] : Fin 0 → Fin S256x16.rank)

variable [Facts]

def fn {F : FTy → Type} [FloatOps F] (main_arg0 : FVec F S1024x256 .f32) (main_arg1 : FVec F S256x16 .f32) (main_arg2 : IVec S1024x1 32) (main_arg3 : FVec F S4x256x512 .f32) (main_arg4 : FVec F S256x512 .f32) : IVec S1024x256 1 × IVec S256x16 1 :=
  let main_cst : FVec F S_ .f32 := constant S_ .f32 0xFF800000#32
  let main_v0 : FVec F S1024x256 .f32 := broadcastInDim S1024x256 ![] bcast_S_S1024x256 main_cst
  let main_v1 : IVec S1024x256 1 := cmpf .ogt main_arg0 main_v0
  let main_cst_0 : FVec F S_ .f32 := constant S_ .f32 0x7F800000#32
  let main_v2 : FVec F S1024x256 .f32 := broadcastInDim S1024x256 ![] bcast_S_S1024x256 main_cst_0
  let main_v3 : IVec S1024x256 1 := cmpf .olt main_arg0 main_v2
  let main_v4 : IVec S1024x256 1 := andi main_v1 main_v3
  let main_cst_1 : FVec F S_ .f32 := constant S_ .f32 0xFF800000#32
  let main_v5 : FVec F S256x16 .f32 := broadcastInDim S256x16 ![] bcast_S_S256x16 main_cst_1
  let main_v6 : IVec S256x16 1 := cmpf .ogt main_arg1 main_v5
  let main_cst_2 : FVec F S_ .f32 := constant S_ .f32 0x7F800000#32
  let main_v7 : FVec F S256x16 .f32 := broadcastInDim S256x16 ![] bcast_S_S256x16 main_cst_2
  let main_v8 : IVec S256x16 1 := cmpf .olt main_arg1 main_v7
  let main_v9 : IVec S256x16 1 := andi main_v6 main_v8
  (main_v4, main_v9)
-- ==== Pre_finite_router_ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  bcast_S_S256x16 : S_.BroadcastsInDim S256x16 (![] : Fin 0 → Fin S256x16.rank)

variable [Facts]

def fn {F : FTy → Type} [FloatOps F] (main_arg0 : FVec F S1024x256 .f32) (main_arg1 : FVec F S256x16 .f32) (main_arg2 : IVec S1024x1 32) (main_arg3 : FVec F S16x256x512 .f32) (main_arg4 : FVec F S256x512 .f32) : IVec S1024x256 1 × IVec S256x16 1 :=
  let main_cst : FVec F S_ .f32 := constant S_ .f32 0xFF800000#32
  let main_v0 : FVec F S1024x256 .f32 := broadcastInDim S1024x256 ![] bcast_S_S1024x256 main_cst
  let main_v1 : IVec S1024x256 1 := cmpf .ogt main_arg0 main_v0
  let main_cst_0 : FVec F S_ .f32 := constant S_ .f32 0x7F800000#32
  let main_v2 : FVec F S1024x256 .f32 := broadcastInDim S1024x256 ![] bcast_S_S1024x256 main_cst_0
  let main_v3 : IVec S1024x256 1 := cmpf .olt main_arg0 main_v2
  let main_v4 : IVec S1024x256 1 := andi main_v1 main_v3
  let main_cst_1 : FVec F S_ .f32 := constant S_ .f32 0xFF800000#32
  let main_v5 : FVec F S256x16 .f32 := broadcastInDim S256x16 ![] bcast_S_S256x16 main_cst_1
  let main_v6 : IVec S256x16 1 := cmpf .ogt main_arg1 main_v5
  let main_cst_2 : FVec F S_ .f32 := constant S_ .f32 0x7F800000#32
  let main_v7 : FVec F S256x16 .f32 := broadcastInDim S256x16 ![] bcast_S_S256x16 main_cst_2
  let main_v8 : IVec S256x16 1 := cmpf .olt main_arg1 main_v7
  let main_v9 : IVec S256x16 1 := andi main_v6 main_v8
  (main_v4, main_v9)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S3x256x512 : Shape := ⟨3, ![3, 256, 512]⟩
abbrev S3 : Shape := ⟨1, ![3]⟩
abbrev S_ : Shape := ⟨0, ![]⟩
abbrev S1024x512 : Shape := ⟨2, ![1024, 512]⟩
abbrev S256x256 : Shape := ⟨2, ![256, 256]⟩
abbrev S256x1 : Shape := ⟨2, ![256, 1]⟩
abbrev S256 : Shape := ⟨1, ![256]⟩
abbrev S256x1024 : Shape := ⟨2, ![256, 1024]⟩
abbrev S1x256x512 : Shape := ⟨3, ![1, 256, 512]⟩
abbrev S1 : Shape := ⟨1, ![1]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S256x512, .f32⟩
  | .local _ .vmem, ⟨0, _⟩ => ⟨S1024x256, .f32⟩
  | .local _ .vmem, ⟨1, _⟩ => ⟨S256x16, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S256x512, .f32⟩
  | .local _ .vmem, ⟨6, _⟩ => ⟨S3x256x512, .bf16⟩
  | .local _ .vmem, ⟨7, _⟩ => ⟨S3x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_30 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c2_i32_30
  let c4_i32_31 : BitVec 32 := 4#32
  let c0_i32_32 : BitVec 32 := 0#32
  let v47 : BitVec 1 := Scalar.cmpi .eq c4_i32_31 c0_i32_32
  let c1_i32_33 : BitVec 32 := 1#32
  let v48 : BitVec 32 := Scalar.select v47 c1_i32_33 c4_i32_31
  let v49 : BitVec 32 := Scalar.remsi v46 v48
  let c0_i32_35 : BitVec 32 := 0#32
  let v51 : BitVec 1 := Scalar.cmpi .slt v49 c0_i32_35
  let c0_i32_36 : BitVec 32 := 0#32
  let v52 : BitVec 1 := Scalar.cmpi .slt v48 c0_i32_36
  let v53 : BitVec 1 := Scalar.xori v51 v52
  let c0_i32_34 : BitVec 32 := 0#32
  let v50 : BitVec 1 := Scalar.cmpi .ne v49 c0_i32_34
  let v54 : BitVec 1 := Scalar.andi v53 v50
  let v55 : BitVec 32 := Scalar.addi v49 v48
  let v56 : BitVec 32 := Scalar.select v54 v55 v49
  let c256_i32 : BitVec 32 := 256#32
  let v57 : BitVec 32 := Scalar.muli v56 c256_i32
  let v58 : Index := Scalar.indexCast v57
  let c0_37 : Index := 0#32
  ![v58.toNat, 0]
def k0_off2 (d0 : Dev nD) (c2_i32_30 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c2_i32_30
  let c4_i32_31 : BitVec 32 := 4#32
  let c0_i32_32 : BitVec 32 := 0#32
  let v47 : BitVec 1 := Scalar.cmpi .eq c4_i32_31 c0_i32_32
  let c1_i32_33 : BitVec 32 := 1#32
  let v48 : BitVec 32 := Scalar.select v47 c1_i32_33 c4_i32_31
  let v49 : BitVec 32 := Scalar.remsi v46 v48
  let c0_i32_35 : BitVec 32 := 0#32
  let v51 : BitVec 1 := Scalar.cmpi .slt v49 c0_i32_35
  let c0_i32_36 : BitVec 32 := 0#32
  let v52 : BitVec 1 := Scalar.cmpi .slt v48 c0_i32_36
  let v53 : BitVec 1 := Scalar.xori v51 v52
  let c0_i32_34 : BitVec 32 := 0#32
  let v50 : BitVec 1 := Scalar.cmpi .ne v49 c0_i32_34
  let v54 : BitVec 1 := Scalar.andi v53 v50
  let v55 : BitVec 32 := Scalar.addi v49 v48
  let v56 : BitVec 32 := Scalar.select v54 v55 v49
  let c256_i32_38 : BitVec 32 := 256#32
  let v61 : BitVec 32 := Scalar.muli v56 c256_i32_38
  let v62 : Index := Scalar.indexCast v61
  let c0_39 : Index := 0#32
  ![v62.toNat, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v46 : BitVec 32 := Scalar.addi v2 c2_i32_30
  let c4_i32_31 : BitVec 32 := 4#32
  let c0_i32_32 : BitVec 32 := 0#32
  let v47 : BitVec 1 := Scalar.cmpi .eq c4_i32_31 c0_i32_32
  let c1_i32_33 : BitVec 32 := 1#32
  let v48 : BitVec 32 := Scalar.select v47 c1_i32_33 c4_i32_31
  let v49 : BitVec 32 := Scalar.remsi v46 v48
  let c0_i32_35 : BitVec 32 := 0#32
  let v51 : BitVec 1 := Scalar.cmpi .slt v49 c0_i32_35
  let c0_i32_36 : BitVec 32 := 0#32
  let v52 : BitVec 1 := Scalar.cmpi .slt v48 c0_i32_36
  let v53 : BitVec 1 := Scalar.xori v51 v52
  let c0_i32_34 : BitVec 32 := 0#32
  let v50 : BitVec 1 := Scalar.cmpi .ne v49 c0_i32_34
  let v54 : BitVec 1 := Scalar.andi v53 v50
  let v55 : BitVec 32 := Scalar.addi v49 v48
  let v56 : BitVec 32 := Scalar.select v54 v55 v49
  let c1_i32_65 : BitVec 32 := 1#32
  let v122 : BitVec 32 := Scalar.muli v56 c1_i32_65
  let v123 : BitVec 32 := Scalar.addi c0_i32_66 v122
  v123.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v132 : BitVec 32 := Scalar.addi v2 c1_i32_71
  let c4_i32_72 : BitVec 32 := 4#32
  let c0_i32_73 : BitVec 32 := 0#32
  let v133 : BitVec 1 := Scalar.cmpi .eq c4_i32_72 c0_i32_73
  let c1_i32_74 : BitVec 32 := 1#32
  let v134 : BitVec 32 := Scalar.select v133 c1_i32_74 c4_i32_72
  let v135 : BitVec 32 := Scalar.remsi v132 v134
  let c0_i32_76 : BitVec 32 := 0#32
  let v137 : BitVec 1 := Scalar.cmpi .slt v135 c0_i32_76
  let c0_i32_77 : BitVec 32 := 0#32
  let v138 : BitVec 1 := Scalar.cmpi .slt v134 c0_i32_77
  let v139 : BitVec 1 := Scalar.xori v137 v138
  let c0_i32_75 : BitVec 32 := 0#32
  let v136 : BitVec 1 := Scalar.cmpi .ne v135 c0_i32_75
  let v140 : BitVec 1 := Scalar.andi v139 v136
  let v141 : BitVec 32 := Scalar.addi v135 v134
  let v142 : BitVec 32 := Scalar.select v140 v141 v135
  let c1_i32_109 : BitVec 32 := 1#32
  let v208 : BitVec 32 := Scalar.muli v142 c1_i32_109
  let v209 : BitVec 32 := Scalar.addi c0_i32_110 v208
  v209.toNat
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_115 : BitVec 32 := 3#32
  let v218 : BitVec 32 := Scalar.addi v2 c3_i32_115
  let c4_i32_116 : BitVec 32 := 4#32
  let c0_i32_117 : BitVec 32 := 0#32
  let v219 : BitVec 1 := Scalar.cmpi .eq c4_i32_116 c0_i32_117
  let c1_i32_118 : BitVec 32 := 1#32
  let v220 : BitVec 32 := Scalar.select v219 c1_i32_118 c4_i32_116
  let v221 : BitVec 32 := Scalar.remsi v218 v220
  let c0_i32_120 : BitVec 32 := 0#32
  let v223 : BitVec 1 := Scalar.cmpi .slt v221 c0_i32_120
  let c0_i32_121 : BitVec 32 := 0#32
  let v224 : BitVec 1 := Scalar.cmpi .slt v220 c0_i32_121
  let v225 : BitVec 1 := Scalar.xori v223 v224
  let c0_i32_119 : BitVec 32 := 0#32
  let v222 : BitVec 1 := Scalar.cmpi .ne v221 c0_i32_119
  let v226 : BitVec 1 := Scalar.andi v225 v222
  let v227 : BitVec 32 := Scalar.addi v221 v220
  let v228 : BitVec 32 := Scalar.select v226 v227 v221
  let c1_i32_152 : BitVec 32 := 1#32
  let v294 : BitVec 32 := Scalar.muli v228 c1_i32_152
  let v295 : BitVec 32 := Scalar.addi c0_i32_153 v294
  v295.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_158 : BitVec 32 := 256#32
  let v304 : BitVec 32 := Scalar.muli v2 c256_i32_158
  let v305 : Index := Scalar.indexCast v304
  let c0_159 : Index := 0#32
  ![v305.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_160 : BitVec 32 := 256#32
  let v308 : BitVec 32 := Scalar.muli v2 c256_i32_160
  let v309 : Index := Scalar.indexCast v308
  let c0_161 : Index := 0#32
  ![v309.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S256x512 : Shape := ⟨2, ![256, 512]⟩
abbrev S1024x16 : Shape := ⟨2, ![1024, 16]⟩
abbrev S_ : Shape := ⟨0, ![]⟩
abbrev S1024 : Shape := ⟨1, ![1024]⟩
abbrev S1024x512 : Shape := ⟨2, ![1024, 512]⟩
abbrev S1024x1x1 : Shape := ⟨3, ![1024, 1, 1]⟩
abbrev S1024x256x512 : Shape := ⟨3, ![1024, 256, 512]⟩

abbrev nBuf : Space → Nat
  | .hbm => 53
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S16x256x512, .f32⟩
  | .hbm, ⟨4, _⟩ => ⟨S256x512, .f32⟩
  | .hbm, ⟨5, _⟩ => ⟨S1024x16, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x16, .f32⟩
  | .hbm, ⟨10, _⟩ => ⟨S1024x16, .f32⟩
  | .hbm, ⟨11, _⟩ => ⟨S1024x16, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x16, .f32⟩
  | .hbm, ⟨16, _⟩ => ⟨S1024x16, .f32⟩
  | .hbm, ⟨17, _⟩ => ⟨S1024x512, .f32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x1, .i32⟩
  | .hbm, ⟨29, _⟩ => ⟨S1024x1, .i32⟩
  | .hbm, ⟨30, _⟩ => ⟨S_, .i32⟩
  | .hbm, ⟨31, _⟩ => ⟨S1024x1, .i32⟩
  | .hbm, ⟨32, _⟩ => ⟨S1024x1, .i32⟩
  | .hbm, ⟨33, _⟩ => ⟨S_, .i32⟩
  | .hbm, ⟨34, _⟩ => ⟨S1024x1, .i32⟩
  | .hbm, ⟨35, _⟩ => ⟨S1024x1, .i1⟩
  | .hbm, ⟨36, _⟩ => ⟨S_, .i32⟩
  | .hbm, ⟨37, _⟩ => ⟨S1024x1, .i32⟩
  | .hbm, ⟨38, _⟩ => ⟨S1024x1, .i32⟩
  | .hbm, ⟨39, _⟩ => ⟨S1024x1, .i32⟩
  | .hbm, ⟨40, _⟩ => ⟨S1024x1x1, .i32⟩
  | .hbm, ⟨41, _⟩ => ⟨S1024x1, .f32⟩
  | .hbm, ⟨42, _⟩ => ⟨S_, .f32⟩
  | .hbm, ⟨43, _⟩ => ⟨S_, .f32⟩
  | .hbm, ⟨44, _⟩ => ⟨S1024x1, .f32⟩
  | .hbm, ⟨45, _⟩ => ⟨S1024x1, .f32⟩
  | .hbm, ⟨46, _⟩ => ⟨S1024, .i32⟩
  | .hbm, ⟨47, _⟩ => ⟨S1024x1, .i32⟩
  | .hbm, ⟨48, _⟩ => ⟨S1024x256x512, .f32⟩
  | .hbm, ⟨49, _⟩ => ⟨S1024x512, .f32⟩
  | .hbm, ⟨50, _⟩ => ⟨S1024x512, .f32⟩
  | .hbm, ⟨51, _⟩ => ⟨S1024x512, .f32⟩
  | .hbm, ⟨52, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_v17 : Ref sig .tc := ⟨.hbm, 41, rfl⟩
abbrev main_cst_4 : Ref sig .tc := ⟨.hbm, 42, rfl⟩
abbrev main_call2_v0 : Ref sig .tc := ⟨.hbm, 43, rfl⟩
abbrev main_call2_v1 : Ref sig .tc := ⟨.hbm, 44, rfl⟩
abbrev main_v18 : Ref sig .tc := ⟨.hbm, 45, rfl⟩
abbrev main_v19 : Ref sig .tc := ⟨.hbm, 46, rfl⟩
abbrev main_call3_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩

abbrev nD : Nat := 1
abbrev τ : Topo := Topo.v7x

variable {F : FTy → Type} [FloatOps F]
-- ==== Proof.Protocol.lean ====
/-
# The exchange's protocol

Four devices hold a quarter of the experts each. A device computes, for each of the other three, what its own experts add to that
device's tokens, and sends it over: from row `h` of its send buffer to row `2 - h` of the receive buffer of the device `h + 1`
steps ahead (`h` is the HOP, 0, 1 or 2). Before any send all devices meet on the runtime's barrier semaphore: each signals the
three others one unit and waits for three.

Per device seven cells, one round each: the barrier cell (three duties of one unit, one per signaller), a send cell per hop and a
receive cell per hop (one duty each, of one row's credit). This module states the cells, what each duty hands over, what each
device owes at the start, the levels, and what the body of one device leaves.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the exchange's with duties named by hops -/

/-- The rounds of the kernel's own cells, as ghost state. -/
abbrev UB : Type := URounds (GSem nD τ sig) (Fin 3)
/-- All the ghost state: the pipeline's and the rounds. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The rounds' part of the ghost state. -/
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Who talks to whom -/

set_option backward.proofsInPublic true in
/-- The device `h + 1` steps ahead of `c`. -/
def fwd (h : Fin 3) (c : Dev nD) : Dev nD := ⟨(c.val + h.val + 1) % 4, Nat.mod_lt _ (by decide)⟩
/-- The hop that leads back from `fwd h c` to `c`: three steps less. It is also the row a hop's send lands in. -/
def rev (h : Fin 3) : Fin 3 := match h with | 0 => 2 | 1 => 1 | 2 => 0
/-- The device `h + 1` steps behind `c`. -/
def bwd (h : Fin 3) (c : Dev nD) : Dev nD := fwd (rev h) c

/-- A hop ahead and back leads home. -/
theorem bwd_fwd (h : Fin 3) (c : Dev nD) : bwd h (fwd h c) = c := by revert h c; decide
/-- A hop back and ahead leads home. -/
theorem fwd_bwd (h : Fin 3) (c : Dev nD) : fwd h (bwd h c) = c := by revert h c; decide
/-- A hop and its reverse lead home. -/
theorem fwd_rev (h : Fin 3) (c : Dev nD) : fwd (rev h) (fwd h c) = c := bwd_fwd h c
/-- The reverse of the reverse is the hop. -/
theorem rev_rev (h : Fin 3) : rev (rev h) = h := by revert h; decide

/-- The first signal goes one step ahead. -/
theorem dev1_eq (c : Dev nD) : (⟨k0_dev1 c, k0_dev1_lt c⟩ : Dev nD) = fwd 0 c := by revert c; decide +kernel
/-- The second signal goes two steps ahead. -/
theorem dev2_eq (c : Dev nD) : (⟨k0_dev2 c, k0_dev2_lt c⟩ : Dev nD) = fwd 1 c := by revert c; decide +kernel
/-- The third signal goes three steps ahead. -/
theorem dev3_eq (c : Dev nD) : (⟨k0_dev3 c, k0_dev3_lt c⟩ : Dev nD) = fwd 2 c := by revert c; decide +kernel
/-- The first send goes two steps ahead. -/
theorem dev4_eq (c : Dev nD) : (⟨k0_dev4 c, k0_dev4_lt c⟩ : Dev nD) = fwd 1 c := by revert c; decide +kernel
/-- The second send goes one step ahead. -/
theorem dev5_eq (c : Dev nD) : (⟨k0_dev5 c, k0_dev5_lt c⟩ : Dev nD) = fwd 0 c := by revert c; decide +kernel
/-- The third send goes three steps ahead. -/
theorem dev6_eq (c : Dev nD) : (⟨k0_dev6 c, k0_dev6_lt c⟩ : Dev nD) = fwd 2 c := by revert c; decide +kernel

/-- A hop as a permutation of the devices. -/
def hop (h : Fin 3) : Dev nD ≃ Dev nD := ⟨fwd h, bwd h, bwd_fwd h, fwd_bwd h⟩
/-- The reversal of hops as a permutation. -/
def revE : Fin 3 ≃ Fin 3 := ⟨rev, rev, rev_rev, rev_rev⟩

/-! ## The buffers and the cells -/

/-- The staged tokens. -/
abbrev xM : Memref sig .tc .vmem S1024x256 .f32 := Memref.whole cc0_stg0_0
/-- The staged router's weights. -/
abbrev rwM : Memref sig .tc .vmem S256x16 .f32 := Memref.whole cc0_stg1_0
/-- The staged indices. -/
abbrev ixM : Memref sig .tc .vmem S1024x1 .i32 := Memref.whole cc0_stg2_0
/-- The staged weights of the device's experts. -/
abbrev ewM : Memref sig .tc .vmem S4x256x512 .f32 := Memref.whole cc0_stg3_0
/-- The staged weights of the shared expert. -/
abbrev swM : Memref sig .tc .vmem S256x512 .f32 := Memref.whole cc0_stg4_0
/-- The staged result. -/
abbrev oM : Memref sig .tc .vmem S256x512 .f32 := Memref.whole cc0_stg5_0
/-- The send buffer and the receive buffer, three rows each. -/
abbrev sM : Memref sig .tc .vmem S3x256x512 .bf16 := Memref.whole cc0_scratch0
/-- The receive buffer. -/
abbrev vM : Memref sig .tc .vmem S3x256x512 .bf16 := Memref.whole cc0_scratch1

/-- Row `r` lies within its buffer. -/
theorem row_inb (r : Fin 3) : ∀ a, (![r.val, 0, 0] : Fin 3 → ℕ) a + S1x256x512.size a ≤ S3x256x512.size a := by revert r; decide
/-- Row `r` of a three-row buffer. -/
abbrev row (r : Fin 3) : Rect S3x256x512 := Rect.unit (s := S3x256x512) ![r.val, 0, 0] S1x256x512.size (row_inb r)

/-- Row `r` of the send buffer as the transfers name it. -/
abbrev sRow (r : Fin 3) : Memref sig .tc .vmem S256x512 .bf16 := (sM.slice (row r) (fun _ => rfl)).squeeze S256x512 squeezes_S1x256x512_S256x512
/-- Row `r` of the receive buffer as the transfers name it. -/
abbrev vRow (r : Fin 3) : Memref sig .tc .vmem S256x512 .bf16 := (vM.slice (row r) (fun _ => rfl)).squeeze S256x512 squeezes_S1x256x512_S256x512

/-- The runtime's barrier semaphore; the send semaphore of a hop; the receive semaphore of a hop. -/
abbrev barS : Sem sig := (SemArray.scalar (sig.barrier 0 rfl) : Sems sig S_).sem
/-- The send semaphore of each hop. -/
abbrev sndS : Fin 3 → DmaSem sig := fun | 0 => ⟨6, by decide⟩ | 1 => ⟨7, by decide⟩ | 2 => ⟨8, by decide⟩
/-- The receive semaphore of each hop. -/
abbrev rcvS : Fin 3 → DmaSem sig := fun | 0 => ⟨11, by decide⟩ | 1 => ⟨10, by decide⟩ | 2 => ⟨9, by decide⟩

/-- The send semaphore number 0 is that of hop 0. -/
theorem snd_slice0 : ((cc0_scratch2.slice (Rect.unit (s := S3) ![0] S1.size inb_S3_S1_0)).squeeze S_ squeezes_S1_S_).sem = sndS 0 := rfl
/-- The send semaphore number 1 is that of hop 1. -/
theorem snd_slice1 : ((cc0_scratch2.slice (Rect.unit (s := S3) ![1] S1.size inb_S3_S1_1)).squeeze S_ squeezes_S1_S_).sem = sndS 1 := rfl
/-- The send semaphore number 2 is that of hop 2. -/
theorem snd_slice2 : ((cc0_scratch2.slice (Rect.unit (s := S3) ![2] S1.size inb_S3_S1_2)).squeeze S_ squeezes_S1_S_).sem = sndS 2 := rfl
/-- The receive semaphore number 0 is that of hop 2. -/
theorem rcv_slice0 : ((cc0_scratch3.slice (Rect.unit (s := S3) ![0] S1.size inb_S3_S1_0)).squeeze S_ squeezes_S1_S_).sem = rcvS 2 := rfl
/-- The receive semaphore number 1 is that of hop 1. -/
theorem rcv_slice1 : ((cc0_scratch3.slice (Rect.unit (s := S3) ![1] S1.size inb_S3_S1_1)).squeeze S_ squeezes_S1_S_).sem = rcvS 1 := rfl
/-- The receive semaphore number 2 is that of hop 0. -/
theorem rcv_slice2 : ((cc0_scratch3.slice (Rect.unit (s := S3) ![2] S1.size inb_S3_S1_2)).squeeze S_ squeezes_S1_S_).sem = rcvS 0 := rfl

/-- The barrier cell of device `c`. -/
abbrev barCell (c : Dev nD) : GSem nD τ sig := ((c : Thread nD τ), .reg barS)
/-- The send cell of hop `h` on device `c`. -/
abbrev sndCell (h : Fin 3) (c : Dev nD) : GSem nD τ sig := ((c : Thread nD τ), .dma (sndS h))
/-- The receive cell of hop `h` on device `c`. -/
abbrev rcvCell (h : Fin 3) (c : Dev nD) : GSem nD τ sig := ((c : Thread nD τ), .dma (rcvS h))

/-- The kernel's own (scoped) semaphores as the launch indexes them: the sends, then the receives by hop. -/
abbrev osem : Fin 6 → SemLoc sig := fun
  | 0 => .dma (sndS 0) | 1 => .dma (sndS 1) | 2 => .dma (sndS 2) | 3 => .dma (rcvS 0) | 4 => .dma (rcvS 1) | 5 => .dma (rcvS 2)
/-- All seven of a device: the barrier, the sends, the receives. -/
abbrev csem : Fin 7 → SemLoc sig := fun
  | 0 => .reg barS | 1 => .dma (sndS 0) | 2 => .dma (sndS 1) | 3 => .dma (sndS 2) | 4 => .dma (rcvS 0) | 5 => .dma (rcvS 1) | 6 => .dma (rcvS 2)
/-- A device and a number name a cell. -/
abbrev kcell (ck : Dev nD × Fin 7) : GSem nD τ sig := ((ck.1 : Thread nD τ), csem ck.2)
/-- The number of a hop's send cell among the seven. -/
abbrev si : Fin 3 → Fin 7 := fun | 0 => 1 | 1 => 2 | 2 => 3
/-- The number of a hop's receive cell among the seven. -/
abbrev vi : Fin 3 → Fin 7 := fun | 0 => 4 | 1 => 5 | 2 => 6
/-- Cell 0 is the barrier. -/
theorem kcell_bar (c : Dev nD) : kcell (c, 0) = barCell c := rfl
/-- A hop's send cell under its number. -/
theorem kcell_snd (h : Fin 3) (c : Dev nD) : kcell (c, si h) = sndCell h c := by fin_cases h <;> rfl
/-- A hop's receive cell under its number. -/
theorem kcell_rcv (h : Fin 3) (c : Dev nD) : kcell (c, vi h) = rcvCell h c := by fin_cases h <;> rfl

/-- One row's credit. -/
abbrev N : ℕ := (vRow 0).view.dmaCredit
/-- The credit of a row is positive. -/
theorem N_pos : 0 < N := View.dmaCredit_pos _ (by decide)

/-! ## Contents -/

/-- The staged tokens on device `c`. -/
def xstg (c : Dev nD) : (cc0_stg0_0 : Ref sig .tc).ty.Contents (Elt F) := (win0_0.blk (0 : Fin 1)).view.read (Elt F) ((s₀ m ρ).mem ((c : Thread nD τ).loc main_arg0))
/-- The staged router's weights on device `c`. -/
def rwstg (c : Dev nD) : (cc0_stg1_0 : Ref sig .tc).ty.Contents (Elt F) := (win0_1.blk (0 : Fin 1)).view.read (Elt F) ((s₀ m ρ).mem ((c : Thread nD τ).loc main_arg1))
/-- The staged indices on device `c`. -/
def ixstg (c : Dev nD) : (cc0_stg2_0 : Ref sig .tc).ty.Contents (Elt F) := (win0_2.blk (0 : Fin 1)).view.read (Elt F) ((s₀ m ρ).mem ((c : Thread nD τ).loc main_arg2))
/-- The staged weights of the device's experts on device `c`. -/
def ewstg (c : Dev nD) : (cc0_stg3_0 : Ref sig .tc).ty.Contents (Elt F) := (win0_3.blk (0 : Fin 1)).view.read (Elt F) ((s₀ m ρ).mem ((c : Thread nD τ).loc main_arg3))
/-- The staged weights of the shared expert on device `c`. -/
def swstg (c : Dev nD) : (cc0_stg4_0 : Ref sig .tc).ty.Contents (Elt F) := (win0_4.blk (0 : Fin 1)).view.read (Elt F) ((s₀ m ρ).mem ((c : Thread nD τ).loc main_arg4))

/-- The device's place in the mesh as the kernel computes it. -/
def pos (c : Dev nD) : BitVec 32 := Scalar.remsi (Scalar.divsi (Dev.word c) 1#32) 4#32

/-- What the experts `4 * p .. 4 * p + 3` (their weights `ew`) add to 256 tokens: rows `x`, chosen experts `ix`, router weights `rw`. -/
def part (p : BitVec 32) (x : Vec F S256x256 .f32) (ix : Vec F S256x1 .i32) (rw : Vec F S256x16 .f32) (ew : Vec F S4x256x512 .f32) : FVec F S256x512 .f32 :=
  k0_pay25 p (k0_pay1 ew) (k0_pay20 x) (k0_pay21 ix) (k0_pay22 x ix rw) (k0_pay23 p x ix rw) (k0_pay24 p ix) (Scalar.ofBits .f32 0x00000000#32)
/-- The same as a row of the send buffer: rounded to bf16. -/
def packed (p : BitVec 32) (x : Vec F S256x256 .f32) (ix : Vec F S256x1 .i32) (rw : Vec F S256x16 .f32) (ew : Vec F S4x256x512 .f32) : FVec F S1x256x512 .bf16 :=
  shapeCast S1x256x512 (truncf .bf16 (part p x ix rw ew) bitsLt_bf16_f32) shapeCasts_S256x512_S1x256x512

/-- The first send, over hop 1, carries the packed part. -/
theorem packed_hop1 (p : BitVec 32) (x : Vec F S256x256 .f32) (ix : Vec F S256x1 .i32) (rw : Vec F S256x16 .f32) (ew : Vec F S4x256x512 .f32) :
    k0_pay8 (k0_pay1 ew) (k0_pay2 x) (k0_pay3 ix) (k0_pay4 (k0_pay2 x) (k0_pay3 ix) rw) (k0_pay5 p (k0_pay2 x) (k0_pay3 ix) rw)
      (k0_pay6 p (k0_pay2 x) (k0_pay3 ix) rw) (k0_pay7 p (k0_pay2 x) (k0_pay3 ix) rw) (Scalar.muli p 4#32) 3#32 = packed p x ix rw ew := rfl
/-- The second send, over hop 0, carries the packed part. -/
theorem packed_hop0 (p : BitVec 32) (x : Vec F S256x256 .f32) (ix : Vec F S256x1 .i32) (rw : Vec F S256x16 .f32) (ew : Vec F S4x256x512 .f32) :
    k0_pay14 p (k0_pay1 ew) (k0_pay9 x) (k0_pay10 ix) (k0_pay11 x ix rw) (k0_pay12 p x ix rw) (k0_pay13 p x ix rw) (Scalar.muli p 4#32) = packed p x ix rw ew := rfl
/-- The third send, over hop 2, carries the packed part. -/
theorem packed_hop2 (p : BitVec 32) (x : Vec F S256x256 .f32) (ix : Vec F S256x1 .i32) (rw : Vec F S256x16 .f32) (ew : Vec F S4x256x512 .f32) :
    k0_pay19 p (k0_pay1 ew) (k0_pay15 x) (k0_pay16 ix) (k0_pay17 x ix rw) (k0_pay18 p x ix rw) 4#32 = packed p x ix rw ew := rfl

/-- All of the experts' weights. -/
abbrev rEw : Rect S4x256x512 := Rect.unit (s := S4x256x512) ![0, 0, 0] S4x256x512.size inb_S4x256x512_S4x256x512_0_0_0
/-- All of the router's weights. -/
abbrev rRw : Rect S256x16 := Rect.unit (s := S256x16) ![0, 0] S256x16.size inb_S256x16_S256x16_0_0
/-- All of the shared expert's weights. -/
abbrev rSw : Rect S256x512 := Rect.unit (s := S256x512) ![0, 0] S256x512.size inb_S256x512_S256x512_0_0
/-- The token rows of the device `h + 1` steps ahead. -/
abbrev rX (c : Dev nD) (h : Fin 3) : Rect S1024x256 := Rect.unit (s := S1024x256) (k0_off1 c (BitVec.ofNat 32 (1 + h.val))) S256x256.size (k0_off1_inb c h)
/-- The index rows of the device `h + 1` steps ahead. -/
abbrev rI (c : Dev nD) (h : Fin 3) : Rect S1024x1 := Rect.unit (s := S1024x1) (k0_off2 c (BitVec.ofNat 32 (1 + h.val))) S256x1.size (k0_off2_inb c h)
/-- The device's own token rows. -/
abbrev rX' (c : Dev nD) : Rect S1024x256 := Rect.unit (s := S1024x256) (k0_off3 c) S256x256.size (k0_off3_inb c)
/-- The device's own index rows. -/
abbrev rI' (c : Dev nD) : Rect S1024x1 := Rect.unit (s := S1024x1) (k0_off4 c) S256x1.size (k0_off4_inb c)

/-- What device `c` sends over hop `h`. -/
def sent (h : Fin 3) (c : Dev nD) : Vec F S1x256x512 .bf16 :=
  packed (pos c) (xM.view.readAt (Elt F) (rX c h).toLoadRect (xstg m ρ c)) (ixM.view.readAt (Elt F) (rI c h).toLoadRect (ixstg m ρ c))
    (rwM.view.readAt (Elt F) rRw.toLoadRect (rwstg m ρ c)) (ewM.view.readAt (Elt F) rEw.toLoadRect (ewstg m ρ c))

/-- What device `c`'s own experts add to its own tokens. -/
def ownPart (c : Dev nD) : FVec F S256x512 .f32 :=
  part (pos c) (xM.view.readAt (Elt F) (rX' c).toLoadRect (xstg m ρ c)) (ixM.view.readAt (Elt F) (rI' c).toLoadRect (ixstg m ρ c))
    (rwM.view.readAt (Elt F) rRw.toLoadRect (rwstg m ρ c)) (ewM.view.readAt (Elt F) rEw.toLoadRect (ewstg m ρ c))

/-- The kernel's result on device `c`: its own experts' part, the shared expert's, and the three rows received (row `r` came over hop `rev r`). -/
def outAt (c : Dev nD) : (cc0_stg5_0 : Ref sig .tc).ty.Contents (Elt F) :=
  k0_pay27 (ownPart m ρ c)
    (k0_pay26 (xM.view.readAt (Elt F) (rX' c).toLoadRect (xstg m ρ c)) (swM.view.readAt (Elt F) rSw.toLoadRect (swstg m ρ c)))
    (sent m ρ 2 (bwd 2 c)) (sent m ρ 1 (bwd 1 c)) (sent m ρ 0 (bwd 0 c))

/-! ## Rows held -/

/-- Row `r` of the send buffer of device `c`, at contents `f`. -/
def sPts (c : Dev nD) (r : Fin 3) (f : Buf (Elt F) ((c : Thread nD τ).loc cc0_scratch0)) : sProp 𝕄 :=
  ((c : Thread nD τ).loc cc0_scratch0) ↦[((row r).set : Finset S3x256x512.Idx)]{fullShare} f
/-- Row `r` of the receive buffer of device `c`, at contents `f`. -/
def vPts (c : Dev nD) (r : Fin 3) (f : Buf (Elt F) ((c : Thread nD τ).loc cc0_scratch1)) : sProp 𝕄 :=
  ((c : Thread nD τ).loc cc0_scratch1) ↦[((row r).set : Finset S3x256x512.Idx)]{fullShare} f

omit [FloatOps F] in
/-- A row of the send buffer may be stored in an invariant. -/
instance sPts_storable (c : Dev nD) (r f) : BI.Storable (upEmb : UEmb _ 𝕄) (sPts (F := F) c r f) := by unfold sPts; infer_instance
omit [FloatOps F] in
/-- A row of the receive buffer may be stored in an invariant. -/
instance vPts_storable (c : Dev nD) (r f) : BI.Storable (upEmb : UEmb _ 𝕄) (vPts (F := F) c r f) := by unfold vPts; infer_instance

omit [FloatOps F] in
/-- The indices of a row of the send buffer as the transfers name it. -/
theorem sRow_set (r : Fin 3) : (sRow r).view.set = (row r).set := (View.set_reshape (v := (sM.slice (row r) (fun _ => rfl)).view) squeezes_S1x256x512_S256x512.numel_eq).trans (View.set_slice_whole _ _)
omit [FloatOps F] in
/-- The indices of a row of the receive buffer as the transfers name it. -/
theorem vRow_set (r : Fin 3) : (vRow r).view.set = (row r).set := (View.set_reshape (v := (vM.slice (row r) (fun _ => rfl)).view) squeezes_S1x256x512_S256x512.numel_eq).trans (View.set_slice_whole _ _)

omit [FloatOps F] in
/-- A row landed in the receive buffer reads as the row sent. -/
theorem land_read (r r' : Fin 3) (fd : (cc0_scratch1 : Ref sig .tc).ty.Contents (Elt F)) (fs : (cc0_scratch0 : Ref sig .tc).ty.Contents (Elt F)) :
    vM.view.readAt (Elt F) (row r').toLoadRect ((vRow r').view.write (Elt F) fd ((sRow r).view.read (Elt F) fs) Finset.univ)
      = sM.view.readAt (Elt F) (row r).toLoadRect fs := by
  funext y
  obtain ⟨z, rfl⟩ := (Shape.reshapeEquiv squeezes_S1x256x512_S256x512.numel_eq).surjective y
  show (vRow r').view.read (Elt F) ((vRow r').view.write (Elt F) fd ((sRow r).view.read (Elt F) fs) Finset.univ) z = (sRow r).view.read (Elt F) fs z
  rw [View.read_write_univ]

omit [FloatOps F] in
/-- A row just stored reads as what was stored. -/
theorem store_read (r : Fin 3) (f : (cc0_scratch0 : Ref sig .tc).ty.Contents (Elt F)) (w : Vec F S1x256x512 .bf16) :
    sM.view.readAt (Elt F) (row r).toLoadRect ((sM.access (row r) : View sig .tc _ _ _).write (Elt F) f w Finset.univ) = w := by
  rw [View.readAt_rect]
  exact View.read_write_univ (v := (sM.access (row r) : View sig .tc _ _ _)) f w

omit [FloatOps F] in
/-- Two rows of a buffer share no index. -/
theorem rows_disjoint : ∀ r r' : Fin 3, r ≠ r' → Disjoint ((row r).set : Finset S3x256x512.Idx) (row r').set :=
  Ring.lead_disjoint (s := S3x256x512) (0 : Fin 3) 1 (fun r : Fin 3 => ![r.val, 0, 0]) S1x256x512.size row_inb (fun b => (Nat.one_mul _).symm) rfl
omit [FloatOps F] in
/-- The three rows cover the buffer. -/
theorem rows_cover : Finset.univ.biUnion (fun r : Fin 3 => ((row r).set : Finset S3x256x512.Idx)) = Finset.univ :=
  Ring.lead_cover (s := S3x256x512) (0 : Fin 3) 1 (fun r : Fin 3 => ![r.val, 0, 0]) S1x256x512.size row_inb (fun b => (Nat.one_mul _).symm)
    (by decide) rfl (by decide) rfl

omit [FloatOps F] in
/-- Three things held together, one by one. -/
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The whole send buffer falls into its three rows. -/
theorem s_split (c : Dev nD) (f : Buf (Elt F) ((c : Thread nD τ).loc cc0_scratch0)) :
    (((c : Thread nD τ).loc cc0_scratch0) ↦{fullShare} f : sProp 𝕄) = iprop(sPts c 0 f ∗ sPts c 1 f ∗ sPts c 2 f) := by
  rw [Ring.pointsTo_blocks (ℓ := (c : Thread nD τ).loc cc0_scratch0) (fun r : Fin 3 => ((row r).set : Finset S3x256x512.Idx)) rows_disjoint rows_cover f, bigSep_fin3]; rfl
omit [FloatOps F] in
/-- The whole receive buffer falls into its three rows. -/
theorem v_split (c : Dev nD) (f : Buf (Elt F) ((c : Thread nD τ).loc cc0_scratch1)) :
    (((c : Thread nD τ).loc cc0_scratch1) ↦{fullShare} f : sProp 𝕄) = iprop(vPts c 0 f ∗ vPts c 1 f ∗ vPts c 2 f) := by
  rw [Ring.pointsTo_blocks (ℓ := (c : Thread nD τ).loc cc0_scratch1) (fun r : Fin 3 => ((row r).set : Finset S3x256x512.Idx)) rows_disjoint rows_cover f, bigSep_fin3]; rfl
omit [FloatOps F] in
/-- The three rows, at any contents, make the send buffer whole. -/
theorem s_join (c : Dev nD) :
    iprop((∃ f, sPts (F := F) c 0 f) ∗ (∃ f, sPts c 1 f) ∗ (∃ f, sPts c 2 f)) ⊢ (iprop(∃ f, ((c : Thread nD τ).loc cc0_scratch0) ↦{fullShare} f) : sProp 𝕄) := by
  iintro ⟨⟨%f, H0⟩, H1, H2⟩
  iapply (Ring.pointsTo_blocks_join_exists (ℓ := (c : Thread nD τ).loc cc0_scratch0) (fun r : Fin 3 => ((row r).set : Finset S3x256x512.Idx)) rows_disjoint rows_cover f)
  rw [bigSep_fin3]; unfold sPts
  isplitl [H0]; · iexists f; iexact H0
  isplitl [H1] <;> iassumption
omit [FloatOps F] in
/-- The three rows, at any contents, make the receive buffer whole. -/
theorem v_join (c : Dev nD) :
    iprop((∃ f, vPts (F := F) c 0 f) ∗ (∃ f, vPts c 1 f) ∗ (∃ f, vPts c 2 f)) ⊢ (iprop(∃ f, ((c : Thread nD τ).loc cc0_scratch1) ↦{fullShare} f) : sProp 𝕄) := by
  iintro ⟨⟨%f, H0⟩, H1, H2⟩
  iapply (Ring.pointsTo_blocks_join_exists (ℓ := (c : Thread nD τ).loc cc0_scratch1) (fun r : Fin 3 => ((row r).set : Finset S3x256x512.Idx)) rows_disjoint rows_cover f)
  rw [bigSep_fin3]; unfold vPts
  isplitl [H0]; · iexists f; iexact H0
  isplitl [H1] <;> iassumption

/-! ## The schedule -/

/-- Duty `h` of `c`'s barrier cell, paid by `fwd h c`: the row of that device's receive buffer that `c`'s send over hop `h` lands in. -/
def barPay (h : Fin 3) (c : Dev nD) : sProp 𝕄 := iprop(∃ f, vPts (F := F) (fwd h c) (rev h) f)
/-- A receive cell's duty: the row, holding what the device `h + 1` steps behind sent. -/
def rcvPay (h : Fin 3) (c : Dev nD) : sProp 𝕄 :=
  iprop(∃ f, vPts c (rev h) f ∗ ⌜vM.view.readAt (Elt F) (row (rev h)).toLoadRect f = sent m ρ h (bwd h c)⌝)
/-- A send cell's duty: the row of the send buffer back. -/
def sndPay (h : Fin 3) (c : Dev nD) : sProp 𝕄 := iprop(∃ f, sPts (F := F) c h f)

omit [FloatOps F] in
/-- What a payment to the barrier brings may be stored in an invariant. -/
instance barPay_storable (h : Fin 3) (c : Dev nD) : BI.Storable (upEmb : UEmb _ 𝕄) (barPay (F := F) h c) := by unfold barPay; infer_instance
/-- What an arrival brings may be stored in an invariant. -/
instance rcvPay_storable (h : Fin 3) (c : Dev nD) : BI.Storable (upEmb : UEmb _ 𝕄) (rcvPay m ρ h c) := by unfold rcvPay; infer_instance
omit [FloatOps F] in
/-- What a departure brings may be stored in an invariant. -/
instance sndPay_storable (h : Fin 3) (c : Dev nD) : BI.Storable (upEmb : UEmb _ 𝕄) (sndPay (F := F) h c) := by unfold sndPay; infer_instance

/-- The duties of a semaphore of a core: the barrier's three, one (named 0) for each DMA semaphore of the exchange. -/
def semDuties : SemLoc sig → Finset (Fin 3)
  | .reg s => if s = barS then Finset.univ else ∅
  | .dma q => if 6 ≤ q.val then {0} else ∅
/-- How much a payment to a semaphore is. -/
def semAmount : SemLoc sig → ℕ
  | .reg _ => 1
  | .dma _ => N
/-- What a payment to a semaphore brings. -/
def semPay (c : Dev nD) (d : Fin 3) : SemLoc sig → sProp 𝕄
  | .reg _ => barPay d c
  | .dma q => match q.val with
    | 6 => sndPay 0 c | 7 => sndPay 1 c | 8 => sndPay 2 c
    | 9 => rcvPay m ρ 2 c | 10 => rcvPay m ρ 1 c | 11 => rcvPay m ρ 0 c
    | _ => iprop(emp)

/-- What any payment brings may be stored in an invariant. -/
instance semPay_storable (c : Dev nD) (d : Fin 3) (sm : SemLoc sig) : BI.Storable (upEmb : UEmb _ 𝕄) (semPay m ρ c d sm) := by
  rcases sm with s | q
  · unfold semPay; infer_instance
  · unfold semPay; dsimp only; split <;> infer_instance

/-- The schedule: one round. -/
def rd : Rounds.Schedule (GSem nD τ sig) (Fin 3) 𝕄 where
  duties g r := if r = 0 ∧ g.1.2 = .tc then semDuties g.2 else ∅
  unitless _ := False
  amount g _ _ := semAmount g.2
  payload g _ d := semPay m ρ g.1.1 d g.2
  amount_pos g _ _ _ := by
    rcases g with ⟨t, s | q⟩
    · exact Nat.one_pos
    · exact N_pos

/-- What a payment of the schedule brings may be stored in an invariant. -/
instance rd_payload_storable (g : GSem nD τ sig) (r : ℕ) (d : Fin 3) : BI.Storable (upEmb : UEmb _ 𝕄) ((rd m ρ).payload g r d) := semPay_storable m ρ g.1.1 d g.2

section Sched
variable (c : Dev nD) (h : Fin 3)

/-- The barrier expects three payments. -/
theorem duties_bar : (rd m ρ).duties (barCell c) 0 = Finset.univ := rfl
/-- A send cell expects one payment. -/
theorem duties_snd : (rd m ρ).duties (sndCell h c) 0 = {0} := by fin_cases h <;> rfl
/-- A receive cell expects one payment. -/
theorem duties_rcv : (rd m ρ).duties (rcvCell h c) 0 = {0} := by fin_cases h <;> rfl
/-- No cell has a second round. -/
theorem duties_later (g : GSem nD τ sig) : ∀ r, 1 ≤ r → (rd m ρ).duties g r = ∅ := fun r hr => if_neg fun h => by omega
/-- A payment to the barrier is 1. -/
theorem amount_bar (d : Fin 3) : (rd m ρ).amount (barCell c) 0 d = 1 := rfl
/-- A payment to a send cell is a row's credit. -/
theorem amount_snd (d : Fin 3) : (rd m ρ).amount (sndCell h c) 0 d = N := rfl
/-- A payment to a receive cell is a row's credit. -/
theorem amount_rcv (d : Fin 3) : (rd m ρ).amount (rcvCell h c) 0 d = N := rfl
/-- What a payment to the barrier brings. -/
theorem payload_bar (d : Fin 3) : (rd m ρ).payload (barCell c) 0 d = barPay d c := rfl
/-- What a departure brings. -/
theorem payload_snd (d : Fin 3) : (rd m ρ).payload (sndCell h c) 0 d = sndPay h c := by fin_cases h <;> rfl
/-- What an arrival brings. -/
theorem payload_rcv (d : Fin 3) : (rd m ρ).payload (rcvCell h c) 0 d = rcvPay m ρ h c := by fin_cases h <;> rfl

/-- The barrier counts to 3. -/
theorem expect_bar : (rd m ρ).expect (barCell c) 0 = 3 := by
  unfold Schedule.expect Schedule.amountOf
  rw [duties_bar, Finset.sum_congr rfl fun d _ => amount_bar m ρ c d, Finset.sum_const, Finset.card_univ, Fintype.card_fin, smul_eq_mul]
/-- A send cell counts to a row's credit. -/
theorem expect_snd : (rd m ρ).expect (sndCell h c) 0 = N := by
  unfold Schedule.expect Schedule.amountOf; rw [duties_snd, Finset.sum_singleton, amount_snd]
/-- A receive cell counts to a row's credit. -/
theorem expect_rcv : (rd m ρ).expect (rcvCell h c) 0 = N := by
  unfold Schedule.expect Schedule.amountOf; rw [duties_rcv, Finset.sum_singleton, amount_rcv]

/-- A wait for the whole round of the barrier hands back the three rows. -/
theorem rest_bar : bigSep ((rd m ρ).duties (barCell c) 0 \ ∅) (fun d => (rd m ρ).payload (barCell c) 0 d) = iprop(barPay 0 c ∗ barPay 1 c ∗ barPay 2 c) := by
  rw [Finset.sdiff_empty, duties_bar, bigSep_fin3, payload_bar, payload_bar, payload_bar]
/-- A wait for a departure hands back the row of the send buffer. -/
theorem rest_snd : bigSep ((rd m ρ).duties (sndCell h c) 0 \ ∅) (fun d => (rd m ρ).payload (sndCell h c) 0 d) = sndPay h c := by
  rw [Finset.sdiff_empty, duties_snd, bigSep_singleton, payload_snd]
/-- A wait for an arrival hands back the row with what was sent. -/
theorem rest_rcv : bigSep ((rd m ρ).duties (rcvCell h c) 0 \ ∅) (fun d => (rd m ρ).payload (rcvCell h c) 0 d) = rcvPay m ρ h c := by
  rw [Finset.sdiff_empty, duties_rcv, bigSep_singleton, payload_rcv]

end Sched

/-! ## What each device owes at the start; the levels -/

/-- Device `c` owes each peer a row's credit on the receive cell of the hop that leads there, summed so that the sends, in program order
    (hops 1, 0, 2), peel the last summand. -/
def oSend (c : Dev nD) : CellTallies nD τ sig Unit :=
  tallyAt (rcvCell 2 (fwd 2 c)) () N + tallyAt (rcvCell 0 (fwd 0 c)) () N + tallyAt (rcvCell 1 (fwd 1 c)) () N
/-- All that device `c` owes: that, and one unit on each peer's barrier, which the signals (hops 0, 1, 2) peel first. -/
def O₀ (c : Dev nD) : CellTallies nD τ sig Unit :=
  oSend c + tallyAt (barCell (fwd 2 c)) () 1 + tallyAt (barCell (fwd 1 c)) () 1 + tallyAt (barCell (fwd 0 c)) () 1

/-- Each cell of a TensorCore has the one level index; other cells have none. -/
def L (g : GSem nD τ sig) : Finset Unit := if g.1.2 = .tc then {()} else ∅
/-- Barrier cells at level 1, receive cells at 2, all others at 0. -/
def lv (g : GSem nD τ sig) (_ : Unit) : ℕ := match g.2 with
  | .reg _ => 1
  | .dma q => if 9 ≤ q.val then 2 else 0

/-- A cell of another core has no level index. -/
theorem L_of_ne (g : GSem nD τ sig) (h : g.1.2 ≠ .tc) : L g = ∅ := if_neg h
/-- A cell of a TensorCore has one. -/
theorem L_tc (c : Dev nD) (sm : SemLoc sig) : L ((c : Thread nD τ), sm) = {()} := if_pos rfl
/-- The level of a barrier. -/
theorem lv_bar (c : Dev nD) (u : Unit) : lv (barCell c) u = 1 := rfl
/-- The level of a receive cell. -/
theorem lv_rcv (h : Fin 3) (c : Dev nD) (u : Unit) : lv (rcvCell h c) u = 2 := by fin_cases h <;> rfl

/-- What a device owes by its sends is owed to receive cells. -/
theorem oSend_pos {c : Dev nD} {g : GSem nD τ sig} {u : Unit} (h : 0 < oSend c g u) : ∃ k d, g = rcvCell k d := by
  unfold oSend at h
  simp only [Pi.add_apply, Finsupp.add_apply, tallyAt_apply] at h
  by_contra hn
  push Not at hn
  rw [if_neg (fun h' => hn _ _ h'.1), if_neg (fun h' => hn _ _ h'.1), if_neg (fun h' => hn _ _ h'.1)] at h
  exact Nat.lt_irrefl 0 h
/-- What a device owes at the start is owed to receive cells and barriers. -/
theorem O₀_pos {c : Dev nD} {g : GSem nD τ sig} {u : Unit} (h : 0 < O₀ c g u) : (∃ k d, g = rcvCell k d) ∨ ∃ d, g = barCell d := by
  unfold O₀ at h
  simp only [Pi.add_apply, Finsupp.add_apply, tallyAt_apply] at h
  by_contra hn
  push Not at hn
  rw [if_neg (fun h' => hn.2 _ h'.1), if_neg (fun h' => hn.2 _ h'.1), if_neg (fun h' => hn.2 _ h'.1)] at h
  obtain ⟨k, d, hd⟩ := oSend_pos (c := c) (g := g) (u := u) (by omega)
  exact hn.1 k d hd

omit [FloatOps F] in
/-- The staging cells may be waited on before anything is sent, and after everything is. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, d, rfl⟩ | ⟨d, rfl⟩ <;> exact Finset.mem_singleton_self _)
      (fun p hp => by rw [Finset.mem_singleton.mp hp]; dsimp only [lv]; rw [if_neg (by omega)])
      (fun g u hg => by
        rcases O₀_pos hg with ⟨k, d, rfl⟩ | ⟨d, rfl⟩
        · rw [lv_rcv]; decide
        · rw [lv_bar]; decide)
  · rw [MayWait_zero]; iintro -; iempintro

omit [FloatOps F] in
/-- At its barrier wait a device owes receive credits only, above the barrier. -/
theorem mayWait_bar (c : Dev nD) : (levAts L lv : sProp 𝕄) ⊢ MayWait (c : Thread nD τ) (.reg barS) () (oSend c) :=
  MayOwe.of_cut (L := L) (lev := lv) 1 (fun p hp => by rw [Finset.mem_singleton.mp hp, L_tc]; exact Finset.mem_singleton_self _)
    (fun g u hg => by obtain ⟨k, d, rfl⟩ := oSend_pos hg; exact Finset.mem_singleton_self _)
    (fun p hp => by rw [Finset.mem_singleton.mp hp]; exact le_of_eq (lv_bar c ()))
    (fun g u hg => by obtain ⟨k, d, rfl⟩ := oSend_pos hg; rw [lv_rcv]; decide)

/-! ## The pipeline's proof data -/

/-- Every cell's invariant (under the names `K` the launch gave them) and that every cell has reached its round. -/
def records (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)
/-- The records may be kept and used again. -/
instance records_persistent (K : Dev nD × Fin 7 → ℕ) : BI.Persistent (records m ρ K) := by unfold records; infer_instance

/-- The tokens of the duties device `c` pays over one hop: its signal (the duty of `fwd h c`'s barrier named by the hop back), its send's two ends. -/
def hopToks (c : Dev nD) (h : Fin 3) : sProp 𝕄 :=
  iprop(dutyTok ER (barCell (fwd h c)) 0 (rev h) ∗ dutyTok ER (rcvCell h (fwd h c)) 0 0 ∗ dutyTok ER (sndCell h c) 0 0)

/-- What the protocol gives device `c`: its positions at round 0 of its seven cells and the tokens it pays with. -/
def linear (c : Dev nD) : sProp 𝕄 :=
  iprop((bigSep Finset.univ fun k : Fin 7 => atPos ER (kcell (c, k)) 0 ∅ 0) ∗ bigSep Finset.univ fun h : Fin 3 => hopToks c h)

/-- What a device holds besides memory: the records and its own tokens. -/
def ghost (K : Dev nD × Fin 7 → ℕ) (c : Dev nD) : sProp 𝕄 := iprop(records m ρ K ∗ linear c)

/-- What the body starts from: that, the credits of its barrier's three units and its three receives, the levels. -/
def start (c : Dev nD) : sProp 𝕄 :=
  iprop((∃ K, ghost m ρ K c) ∗ cred (tallyAt (barCell c) () 3)
    ∗ (bigSep Finset.univ fun h : Fin 3 => cred (tallyAt (rcvCell h c) () N)) ∗ levAts L lv)

/-- The two buffers whole, at some contents. -/
def bufs (c : Dev nD) : sProp 𝕄 :=
  iprop((∃ f, ((c : Thread nD τ).loc cc0_scratch0) ↦{fullShare} (f : Buf (Elt F) ((c : Thread nD τ).loc cc0_scratch0)))
    ∗ (∃ f, ((c : Thread nD τ).loc cc0_scratch1) ↦{fullShare} (f : Buf (Elt F) ((c : Thread nD τ).loc cc0_scratch1))))

/-- The state before the body. -/
def Φ₀ (c : Dev nD) : sProp 𝕄 := iprop(start m ρ c ∗ bufs c)
/-- After the body: the buffers again, every cell closed at zero. -/
def Φ₁ (c : Dev nD) : sProp 𝕄 := iprop(bufs (F := F) c ∗ bigSep Finset.univ fun k : Fin 7 => semVal (kcell (c, k)) 0)

/-- The launch's data: the state before and after, the contents of the staged arrays. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => ixstg m ρ c
    | ⟨3, _⟩ => ewstg m ρ c
    | ⟨4, _⟩ => swstg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.MoeProof

end
-- ==== Proof.Body.lean ====
/-
# One device's body

The kernel's body on device `c`, executed one rule per effect in program order: three signals that hand the rows of the receive
buffer to the peers, the wait for the peers' rows, per hop the chunk's computation and its send, the three receive waits, the sum
and its store, the three send waits; at the end every cell is closed.
-/
module

public import proofs.«01_k».proof.Proof.Protocol
public import proofs.«01_k».proof.Proof.Gen.KernelIdeal.Points

@[expose] public section

set_option maxRecDepth 16384

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body has no loop that needs a variant. -/
abbrev 𝒱₀ : Variants := Variants.none

omit [FloatOps F] in
/-- Seven things held together, one by one. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- What the protocol gives a device, spelt out. -/
theorem linear_eq (c : Dev nD) : (linear c : sProp 𝕄) = iprop((atPos ER (barCell c) 0 ∅ 0
    ∗ atPos ER (sndCell 0 c) 0 ∅ 0 ∗ atPos ER (sndCell 1 c) 0 ∅ 0 ∗ atPos ER (sndCell 2 c) 0 ∅ 0
    ∗ atPos ER (rcvCell 0 c) 0 ∅ 0 ∗ atPos ER (rcvCell 1 c) 0 ∅ 0 ∗ atPos ER (rcvCell 2 c) 0 ∅ 0)
    ∗ hopToks c 0 ∗ hopToks c 1 ∗ hopToks c 2) := by unfold linear; rw [bigSep_fin7, bigSep_fin3]
omit [FloatOps F] in
/-- The seven zeroed counters of a device, by what they are for. -/
theorem zeros_eq (c : Dev nD) : (bigSep Finset.univ fun k : Fin 7 => semVal (kcell (c, k)) 0 : sProp 𝕄) = iprop(semVal (barCell c) 0
    ∗ semVal (sndCell 0 c) 0 ∗ semVal (sndCell 1 c) 0 ∗ semVal (sndCell 2 c) 0 ∗ semVal (rcvCell 0 c) 0 ∗ semVal (rcvCell 1 c) 0 ∗ semVal (rcvCell 2 c) 0) := by
  rw [bigSep_fin7]

section Steps
variable (K : Dev nD × Fin 7 → ℕ) (c : Dev nD)

/-- Every cell has its invariant in the records. -/
theorem inv_of (ck : Dev nD × Fin 7) : records m ρ K ⊢ cellInv ER (rd m ρ) (K ck) (kcell ck) := by
  unfold records; exact (BI.sep_and.trans BI.and_elimL).trans (bigSep_elim (Finset.mem_univ ck))
/-- By the records, every cell has reached its first round. -/
theorem reached_of (ck : Dev nD × Fin 7) : records m ρ K ⊢ reached ER (kcell ck) 0 := by
  unfold records; exact (BI.sep_and.trans BI.and_elimR).trans (bigSep_elim (Finset.mem_univ ck))

/-- A send cell's invariant. -/
theorem inv_snd (h : Fin 3) (d : Dev nD) : records m ρ K ⊢ cellInv ER (rd m ρ) (K (d, si h)) (sndCell h d) :=
  (inv_of m ρ K (d, si h)).trans (Entails.of_eq (congrArg _ (kcell_snd h d)))
/-- A receive cell's invariant. -/
theorem inv_rcv (h : Fin 3) (d : Dev nD) : records m ρ K ⊢ cellInv ER (rd m ρ) (K (d, vi h)) (rcvCell h d) :=
  (inv_of m ρ K (d, vi h)).trans (Entails.of_eq (congrArg _ (kcell_rcv h d)))
/-- A send cell has reached its first round. -/
theorem reached_snd (h : Fin 3) (d : Dev nD) : records m ρ K ⊢ reached ER (sndCell h d) 0 :=
  (reached_of m ρ K (d, si h)).trans (Entails.of_eq (congrArg (fun g => reached ER g 0) (kcell_snd h d)))
/-- A receive cell has reached its first round. -/
theorem reached_rcv (h : Fin 3) (d : Dev nD) : records m ρ K ⊢ reached ER (rcvCell h d) 0 :=
  (reached_of m ρ K (d, vi h)).trans (Entails.of_eq (congrArg (fun g => reached ER g 0) (kcell_rcv h d)))

/-- The signal over hop `h`, handing row `h` of the own receive buffer over. -/
theorem wp_sig (h : Fin 3) (n : Dev nD) (hn : n = fwd h c) {k1 : Int} (hk1 : k1 = 1) {α : Type} {Q : α → sProp 𝕄}
    {k : PUnit → Prog (TpuEff nD τ sig (Elt F) Λ₀ .tc) α} (O : CellTallies nD τ sig Unit) (W : Waits sig Unit) :
    iprop(records m ρ K ∗ owes (c : Thread nD τ) (O + tallyAt (barCell (fwd h c)) () 1) W ∗ dutyTok ER (barCell (fwd h c)) 0 (rev h) ∗ (∃ f, vPts c h f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k1) k) Q) := by
  subst hn hk1
  iintro ⟨#HR, HO, Ht, Hv⟩
  iapply (Rounds.wp_signal 𝒱₀ ER (rd m ρ) (c : Thread nD τ) none (dst := (fwd h c : Thread nD τ)) (κ := K (fwd h c, 0))
      (d := rev h) (by rw [duties_bar]; exact Finset.mem_univ _) (amount_bar m ρ (fwd h c) (rev h)) () O rfl)
  isplitr; · iapply (inv_of m ρ K (fwd h c, 0)); iexact HR
  isplitl [HO]; · iexact HO
  isplitl [Ht]; · iexact Ht
  isplitl [Hv]
  · rw [payload_bar]; unfold barPay; rw [fwd_rev, rev_rev]; iexact Hv
  · iapply (reached_of m ρ K (fwd h c, 0)); iexact HR

/-- The send over hop `h`, from row `h` of the send buffer holding what `c` owes that peer, into the peer's row. -/
theorem wp_snd (h : Fin 3) (n : Dev nD) (hn : n = fwd h c) {hsc : (vRow (rev h) : Memref sig (Dev.tc n : Thread nD τ).2.kind .vmem S256x512 .bf16).view.ref.isScScratch = false}
    {hsrc : (sRow h).view.WordExact} {hdst : (vRow (rev h)).view.WordExact}
    {hsem : DmaTarget.Typed .vmem (.dma (rcvS h)) (.remote (Dev.tc n : Thread nD τ) (vRow (rev h)) (.dma (sndS h)) hsc)}
    {α : Type} {Q : α → sProp 𝕄} {k : PUnit → Prog (TpuEff nD τ sig (Elt F) Λ₀ .tc) α}
    (O : CellTallies nD τ sig Unit) (W : Waits sig Unit) :
    iprop(records m ρ K ∗ (∃ f, sPts c h f ∗ ⌜sM.view.readAt (Elt F) (row h).toLoadRect f = sent m ρ h c⌝) ∗ barPay h c
        ∗ owes (c : Thread nD τ) (O + tallyAt (rcvCell h (fwd h c)) () N) W
        ∗ dutyTok ER (sndCell h c) 0 0 ∗ dutyTok ER (rcvCell h (fwd h c)) 0 0)
      ⊢ iprop(((cred (tallyAt (sndCell h c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sRow h) (.remote (Dev.tc n : Thread nD τ) (vRow (rev h)) (.dma (sndS h)) hsc) (.dma (rcvS h)) hsrc hdst hsem) k) Q) := by
  subst hn
  unfold barPay
  iintro ⟨#HR, ⟨%fs, Hs, %hfs⟩, ⟨%fd, Hv⟩, HO, HtS, HtV⟩
  iapply (Rounds.wp_send_pointsTo 𝒱₀ ER (rd m ρ) (c : Thread nD τ) none (κ₁ := K (c, si h)) (κ₂ := K (fwd h c, vi h))
    (r₁ := 0) (r₂ := 0) (d₁ := 0) (d₂ := 0) (fs := fs) (fd := fd) (q := fullShare)
    (by rw [duties_snd]; exact Finset.mem_singleton_self _) (by rw [duties_rcv]; exact Finset.mem_singleton_self _)
    () () N (by fin_cases h <;> rfl) (amount_snd m ρ c h 0) (amount_rcv m ρ (fwd h c) h 0) O rfl (W := W)
    (by rw [payload_snd, sRow_set]; unfold sndPay sPts; iintro H; iexists fs; iexact H)
    (by
      rw [payload_rcv, vRow_set]; unfold rcvPay vPts; rw [bwd_fwd]
      iintro H; iexists _; isplitl; · iexact H
      ipureintro; exact (land_read h (rev h) fd fs).trans hfs))
  rw [sRow_set, vRow_set]
  isplitr; · iapply (inv_snd m ρ K h c); iexact HR
  isplitr; · iapply (inv_rcv m ρ K h (fwd h c)); iexact HR
  isplitl [Hs]; · unfold sPts; iexact Hs
  isplitl [Hv]; · unfold vPts; iexact Hv
  isplitl [HO]; · iexact HO
  isplitl [HtS]; · iexact HtS
  isplitr; · iapply (reached_snd m ρ K h c); iexact HR
  isplitl [HtV]; · iexact HtV
  iapply (reached_rcv m ρ K h (fwd h c)); iexact HR

/-- The wait for a hop's row to arrive: the row, holding what the peer sent; the cell closed at zero. -/
theorem wp_rcv (h : Fin 3) {src dst : Memref sig .tc .vmem S256x512 .bf16}
    {hsrc : src.view.WordExact} {hdst : dst.view.WordExact} {α : Type} {Q : α → sProp 𝕄} {k : PUnit → Prog (TpuEff nD τ sig (Elt F) Λ₀ .tc) α} (W : Waits sig Unit) :
    iprop(records m ρ K ∗ cred (tallyAt (rcvCell h c) () N) ∗ owes (c : Thread nD τ) 0 W ∗ atPos ER (rcvCell h c) 0 ∅ 0)
      ⊢ iprop(((owes (c : Thread nD τ) 0 (insert (SemLoc.dma (rcvS h), ()) W) ∗ semVal (rcvCell h c) 0 ∗ rcvPay m ρ h c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS h) src dst hsrc hdst) k) Q) := by
  iintro ⟨#HR, Hc, HO, Hat⟩ Hk
  ihave #HI := (inv_rcv m ρ K h c) $$ HR
  iapply (Rounds.wp_wait_rest_token 𝒱₀ ER (rd m ρ) (c : Thread nD τ) none (κ := K (c, vi h))
      (wpE_waitDma2_eq 𝒱₀ (c : Thread nD τ) none Set.univ) (Set.mem_univ _) () (O := 0) (W := W) (R := 0) (m := 0) (T := ∅)
      (by rw [Nat.zero_add, expect_rcv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_rcv m ρ c h)) $$ Hpay
  imod (Rounds.cell_close ER (rd m ρ) (Set.mem_univ (K (c, vi h))) (fun h => h) (R := 0 + 1) (duties_later m ρ (rcvCell h c))) $$ [Hat] with Hz
  · isplitr; · iexact HI
    iexact Hat
  iapply Hk
  isplitl [HO]; · iexact HO
  isplitl [Hz] <;> iassumption

/-- The wait for a hop's send to be done: its row of the send buffer back; the cell closed at zero. -/
theorem wp_snt (h : Fin 3) {src dst : Memref sig .tc .vmem S256x512 .bf16}
    {hsrc : src.view.WordExact} {hdst : dst.view.WordExact} {α : Type} {Q : α → sProp 𝕄} {k : PUnit → Prog (TpuEff nD τ sig (Elt F) Λ₀ .tc) α} (W : Waits sig Unit) :
    iprop(records m ρ K ∗ cred (tallyAt (sndCell h c) () N) ∗ owes (c : Thread nD τ) 0 W ∗ atPos ER (sndCell h c) 0 ∅ 0)
      ⊢ iprop(((owes (c : Thread nD τ) 0 (insert (SemLoc.dma (sndS h), ()) W) ∗ semVal (sndCell h c) 0 ∗ sndPay h c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS h) src dst hsrc hdst) k) Q) := by
  iintro ⟨#HR, Hc, HO, Hat⟩ Hk
  ihave #HI := (inv_snd m ρ K h c) $$ HR
  iapply (Rounds.wp_wait_rest_token 𝒱₀ ER (rd m ρ) (c : Thread nD τ) none (κ := K (c, si h))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_snd m ρ c h)) $$ Hpay
  imod (Rounds.cell_close ER (rd m ρ) (Set.mem_univ (K (c, si h))) (fun h => h) (R := 0 + 1) (duties_later m ρ (sndCell h c))) $$ [Hat] with Hz
  · isplitr; · iexact HI
    iexact Hat
  iapply Hk
  isplitl [HO]; · iexact HO
  isplitl [Hz] <;> iassumption

/-- The wait for the three peers' units: the three rows the sends land in; the barrier closed at zero. -/
theorem wp_bar {k3 : Int} (hk3 : k3 = 3) {α : Type} {Q : α → sProp 𝕄} {k : PUnit → Prog (TpuEff nD τ sig (Elt F) Λ₀ .tc) α} (W : Waits sig Unit) :
    iprop(records m ρ K ∗ cred (tallyAt (barCell c) () 3) ∗ owes (c : Thread nD τ) (oSend c) W ∗ levAts L lv ∗ atPos ER (barCell c) 0 ∅ 0)
      ⊢ iprop(((owes (c : Thread nD τ) (oSend c) (insert (SemLoc.reg barS, ()) W) ∗ semVal (barCell c) 0 ∗ barPay 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k3) k) Q) := by
  subst hk3
  iintro ⟨#HR, Hc, HO, Hlev, Hat⟩ Hk
  ihave #HI := (inv_of m ρ K (c, 0)) $$ HR
  iapply (Rounds.wp_wait_rest_token 𝒱₀ ER (rd m ρ) (c : Thread nD τ) none (κ := K (c, 0))
      (wpE_semWait_eq 𝒱₀ (c : Thread nD τ) none Set.univ) (Set.mem_univ _) () (O := oSend c) (W := W) (R := 0) (m := 0) (T := ∅)
      (by rw [Nat.zero_add, expect_bar])) $$ [Hc HO Hlev Hat]
  · isplitr; · iexact HI
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (c, 0))) (fun h => h) (R := 0 + 1) (duties_later m ρ (barCell c))) $$ [Hat] with Hz
  · isplitr; · iexact HI
    iexact Hat
  iapply Hk
  isplitl [HO]; · iexact HO
  isplitl [Hz] <;> iassumption

end Steps

section Rows
omit [FloatOps F]
/-- A load of row `r` of the send buffer touches only that row. -/
theorem sLoad_sub (r : Fin 3) : (sM : Memref sig .tc .vmem S3x256x512 .bf16).view.setOn (row r).toLoadRect.set ⊆ ((row r).set : Finset S3x256x512.Idx) := by
  intro i hi; obtain ⟨a, ha, rfl⟩ := Finset.mem_map.mp hi; exact (by simpa using ha : a ∈ (row r).set)
/-- A load of row `r` of the receive buffer touches only that row. -/
theorem vLoad_sub (r : Fin 3) : (vM : Memref sig .tc .vmem S3x256x512 .bf16).view.setOn (row r).toLoadRect.set ⊆ ((row r).set : Finset S3x256x512.Idx) := by
  intro i hi; obtain ⟨a, ha, rfl⟩ := Finset.mem_map.mp hi; exact (by simpa using ha : a ∈ (row r).set)
/-- A store into row `r` of the send buffer touches only that row. -/
theorem sStore_sub (r : Fin 3) : ((sM : Memref sig .tc .vmem S3x256x512 .bf16).access (row r)).setOn Finset.univ ⊆ ((row r).set : Finset S3x256x512.Idx) := by
  intro i hi; exact (congrArg (i ∈ ·) (View.set_slice_whole cc0_scratch0 (row r))).mp hi
/-- A store that covers the whole result leaves what was stored. -/
theorem stored_out (f w : (cc0_stg5_0 : Ref sig .tc).ty.Contents (Elt F)) : (oM.access rSw : View sig .tc _ _ _).write (Elt F) f w Finset.univ = w :=
  Memref.write_access_unit_zero_univ _ _ (by decide) _ _ _
end Rows

/-- A staging buffer of device `c`, whole, at contents `X`. -/
abbrev whole (c : Dev nD) (b : Ref sig .tc) (X : Buf (Elt F) ((c : Thread nD τ).loc b)) : sProp 𝕄 := ((c : Thread nD τ).loc b) ↦{fullShare} X

/-- What the body starts from, the records' names fixed, the inputs' contents known. -/
def bodyPre (K : Dev nD × Fin 7 → ℕ) (c : Dev nD) : sProp 𝕄 :=
  iprop((ghost m ρ K c ∗ cred (tallyAt (barCell c) () 3) ∗ (bigSep Finset.univ fun h : Fin 3 => cred (tallyAt (rcvCell h c) () N)) ∗ levAts L lv ∗ bufs c)
    ∗ (∃ W, owes (c : Thread nD τ) (O₀ c) W)
    ∗ whole c cc0_stg0_0 (xstg m ρ c) ∗ whole c cc0_stg1_0 (rwstg m ρ c) ∗ whole c cc0_stg2_0 (ixstg m ρ c)
    ∗ whole c cc0_stg3_0 (ewstg m ρ c) ∗ whole c cc0_stg4_0 (swstg m ρ c) ∗ (∃ f, whole c cc0_stg5_0 f))

/-- What the body ends with: the closing state, nothing owed, the inputs as they were, the result stored. -/
def bodyPost (c : Dev nD) : sProp 𝕄 :=
  iprop(Φ₁ c ∗ (∃ W, owes (c : Thread nD τ) 0 W)
    ∗ whole c cc0_stg0_0 (xstg m ρ c) ∗ whole c cc0_stg1_0 (rwstg m ρ c) ∗ whole c cc0_stg2_0 (ixstg m ρ c)
    ∗ whole c cc0_stg3_0 (ewstg m ρ c) ∗ whole c cc0_stg4_0 (swstg m ρ c) ∗ whole c cc0_stg5_0 (outAt m ρ c))

set_option maxHeartbeats 2000000 in
/-- The body, executed from `bodyPre`, one rule per effect in program order, to `bodyPost`. -/
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part12_eq_skeleton]; unfold k0_part12_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre ghost bufs
  rw [linear_eq, bigSep_fin3]
  iintro ⟨⟨⟨⟨#HR, ⟨HaB, HaS0, HaS1, HaS2, HaV0, HaV1, HaV2⟩, HT0, HT1, HT2⟩, HcB, ⟨HcV0, HcV1, HcV2⟩, #Hlev, ⟨%fs, HS⟩, ⟨%fv, HV⟩⟩,
    ⟨%W, HO⟩, Hx, Hrw, Hix, Hew, Hsw, ⟨%fo, Hout⟩⟩, Hk⟩
  unfold hopToks
  icases HT0 with ⟨HtB0, HtV0, HtS0⟩
  icases HT1 with ⟨HtB1, HtV1, HtS1⟩
  icases HT2 with ⟨HtB2, HtV2, HtS2⟩
  ihave HS := (Entails.of_eq (s_split c fs)) $$ HS
  ihave HV := (Entails.of_eq (v_split c fv)) $$ HV
  icases HS with ⟨HS0, HS1, HS2⟩
  icases HV with ⟨HV0, HV1, HV2⟩
  unfold O₀
  -- the three signals, each handing one row of the receive buffer over
  iapply (wp_sig m ρ K c 0 _ (dev1_eq c) rfl _ W) $$ [HO HtB0 HV0]
  · isplitr; · iexact HR
    isplitl [HO]; · iexact HO
    isplitl [HtB0]; · iexact HtB0
    iexists _; iexact HV0
  iintro HO
  iapply (wp_sig m ρ K c 1 _ (dev2_eq c) rfl _ W) $$ [HO HtB1 HV1]
  · isplitr; · iexact HR
    isplitl [HO]; · iexact HO
    isplitl [HtB1]; · iexact HtB1
    iexists _; iexact HV1
  iintro HO
  iapply (wp_sig m ρ K c 2 _ (dev3_eq c) rfl _ W) $$ [HO HtB2 HV2]
  · isplitr; · iexact HR
    isplitl [HO]; · iexact HO
    isplitl [HtB2]; · iexact HtB2
    iexists _; iexact HV2
  iintro HO
  -- the wait for the peers
  iapply (wp_bar m ρ K c rfl W) $$ [HcB HO HaB]
  · isplitr; · iexact HR
    isplitl [HcB]; · iexact HcB
    isplitl [HO]; · iexact HO
    isplitr; · iexact Hlev
    iexact HaB
  iintro ⟨HO, HzB, HP0, HP1, HP2⟩
  -- the experts, then the chunk two steps ahead and its send
  iapply (wp_load 𝒱₀ (c : Thread nD τ) none Set.univ (m := ewM) (Finset.subset_univ _)) $$ Hew; iintro Hew
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := rwM) (Finset.subset_univ _)) $$ Hrw; iintro Hrw
  unfold sPts
  iapply (wp_load 𝒱₀ (c : Thread nD τ) none Set.univ (m := sM) (sLoad_sub 1)) $$ HS1; iintro HS1
  iapply (wp_store 𝒱₀ (c : Thread nD τ) none Set.univ (m := sM) (r := row 1) (Mk := Finset.univ) (sStore_sub 1)) $$ HS1; iintro HS1
  unfold oSend
  iapply (wp_snd m ρ K c 1 _ (dev4_eq c) _ _) $$ [HO HS1 HP1 HtS1 HtV1]
  · isplitr; · iexact HR
    isplitl [HS1]
    · iexists _; isplitl; · unfold sPts; iexact HS1
      ipureintro; exact (store_read 1 _ _).trans (packed_hop1 _ _ _ _ _)
    isplitl [HP1]; · iexact HP1
    isplitl [HO]; · iexact HO
    isplitl [HtS1] <;> iassumption
  iintro ⟨HcS1, HO⟩
  -- the chunk one step ahead and its send; three steps ahead
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := rwM) (Finset.subset_univ _)) $$ Hrw; iintro Hrw
  iapply (wp_load 𝒱₀ (c : Thread nD τ) none Set.univ (m := sM) (sLoad_sub 0)) $$ HS0; iintro HS0
  iapply (wp_store 𝒱₀ (c : Thread nD τ) none Set.univ (m := sM) (r := row 0) (Mk := Finset.univ) (sStore_sub 0)) $$ HS0; iintro HS0
  iapply (wp_snd m ρ K c 0 _ (dev5_eq c) _ _) $$ [HO HS0 HP0 HtS0 HtV0]
  · isplitr; · iexact HR
    isplitl [HS0]
    · iexists _; isplitl; · unfold sPts; iexact HS0
      ipureintro; exact (store_read 0 _ _).trans (packed_hop0 _ _ _ _ _)
    isplitl [HP0]; · iexact HP0
    isplitl [HO]; · iexact HO
    isplitl [HtS0] <;> iassumption
  iintro ⟨HcS0, HO⟩
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := rwM) (Finset.subset_univ _)) $$ Hrw; iintro Hrw
  iapply (wp_load 𝒱₀ (c : Thread nD τ) none Set.univ (m := sM) (sLoad_sub 2)) $$ HS2; iintro HS2
  iapply (wp_store 𝒱₀ (c : Thread nD τ) none Set.univ (m := sM) (r := row 2) (Mk := Finset.univ) (sStore_sub 2)) $$ HS2; iintro HS2
  iapply (wp_snd m ρ K c 2 _ (dev6_eq c) _ _) $$ [HO HS2 HP2 HtS2 HtV2]
  · isplitr; · iexact HR
    isplitl [HS2]
    · iexists _; isplitl; · unfold sPts; iexact HS2
      ipureintro; exact (store_read 2 _ _).trans (packed_hop2 _ _ _ _ _)
    isplitl [HP2]; · iexact HP2
    isplitl [HO]; · rw [zero_add]; iexact HO
    isplitl [HtS2] <;> iassumption
  iintro ⟨HcS2, HO⟩
  -- the own chunk, the shared expert
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := rwM) (Finset.subset_univ _)) $$ Hrw; iintro Hrw
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  -- the three rows received
  iapply (wp_rcv m ρ K c 2 _) $$ [HcV2 HO HaV2]
  · isplitr; · iexact HR
    isplitl [HcV2]; · iexact HcV2
    isplitl [HO] <;> iassumption
  iintro ⟨HO, HzV2, HQ2⟩
  iapply (wp_rcv m ρ K c 1 _) $$ [HcV1 HO HaV1]
  · isplitr; · iexact HR
    isplitl [HcV1]; · iexact HcV1
    isplitl [HO] <;> iassumption
  iintro ⟨HO, HzV1, HQ1⟩
  iapply (wp_rcv m ρ K c 0 _) $$ [HcV0 HO HaV0]
  · isplitr; · iexact HR
    isplitl [HcV0]; · iexact HcV0
    isplitl [HO] <;> iassumption
  iintro ⟨HO, HzV0, HQ0⟩
  unfold rcvPay vPts
  icases HQ2 with ⟨%g2, HV2, %hg2⟩
  icases HQ1 with ⟨%g1, HV1, %hg1⟩
  icases HQ0 with ⟨%g0, HV0, %hg0⟩
  iapply (wp_load 𝒱₀ (c : Thread nD τ) none Set.univ (m := vM) (vLoad_sub (rev 2))) $$ HV2; iintro HV2
  iapply (wp_load 𝒱₀ (c : Thread nD τ) none Set.univ (m := vM) (vLoad_sub (rev 1))) $$ HV1; iintro HV1
  iapply (wp_load 𝒱₀ (c : Thread nD τ) none Set.univ (m := vM) (vLoad_sub (rev 0))) $$ HV0; iintro HV0
  -- the sum and its store
  iapply (wp_load 𝒱₀ (c : Thread nD τ) none Set.univ (m := oM) (Finset.subset_univ _)) $$ Hout; iintro Hout
  iapply (wp_store 𝒱₀ (c : Thread nD τ) none Set.univ (m := oM) (r := rSw) (Mk := Finset.univ) (Finset.subset_univ _)) $$ Hout; iintro Hout
  -- the sends are done
  iapply (wp_snt m ρ K c 1 _) $$ [HcS1 HO HaS1]
  · isplitr; · iexact HR
    isplitl [HcS1]; · iexact HcS1
    isplitl [HO] <;> iassumption
  iintro ⟨HO, HzS1, HS1⟩
  iapply (wp_snt m ρ K c 0 _) $$ [HcS0 HO HaS0]
  · isplitr; · iexact HR
    isplitl [HcS0]; · iexact HcS0
    isplitl [HO] <;> iassumption
  iintro ⟨HO, HzS0, HS0⟩
  iapply (wp_snt m ρ K c 2 _) $$ [HcS2 HO HaS2]
  · isplitr; · iexact HR
    isplitl [HcS2]; · iexact HcS2
    isplitl [HO] <;> iassumption
  iintro ⟨HO, HzS2, HS2⟩
  rw [wp_ret]; imodintro
  iapply Hk
  unfold bodyPost Φ₁ bufs
  rw [zeros_eq]
  unfold sndPay
  isplitl [HS0 HS1 HS2 HV0 HV1 HV2 HzB HzS0 HzS1 HzS2 HzV0 HzV1 HzV2]
  · isplitl [HS0 HS1 HS2 HV0 HV1 HV2]
    · isplitl [HS0 HS1 HS2]
      · iapply (s_join c)
        isplitl [HS0]; · iexact HS0
        isplitl [HS1] <;> iassumption
      · iapply (v_join c)
        unfold vPts
        isplitl [HV2]; · iexists _; iexact HV2
        isplitl [HV1]; · iexists _; iexact HV1
        iexists _; iexact HV0
    isplitl [HzB]; · iexact HzB
    isplitl [HzS0]; · iexact HzS0
    isplitl [HzS1]; · iexact HzS1
    isplitl [HzS2]; · iexact HzS2
    isplitl [HzV0]; · iexact HzV0
    isplitl [HzV1] <;> iassumption
  isplitl [HO]; · iexists _; iexact HO
  isplitl [Hx]; · iexact Hx
  isplitl [Hrw]; · iexact Hrw
  isplitl [Hix]; · iexact Hix
  isplitl [Hew]; · iexact Hew
  isplitl [Hsw]; · iexact Hsw
  rw [stored_out]
  have hg0' : vM.view.readAt (Elt F) (row 2).toLoadRect g0 = sent m ρ 0 (bwd 0 c) := hg0
  have hg1' : vM.view.readAt (Elt F) (row 1).toLoadRect g1 = sent m ρ 1 (bwd 1 c) := hg1
  have hg2' : vM.view.readAt (Elt F) (row 0).toLoadRect g2 = sent m ρ 2 (bwd 2 c) := hg2
  unfold outAt
  rw [← hg0', ← hg1', ← hg2']
  iexact Hout

/-- A staging buffer of device `c` holding `X`, as the pipeline states it. -/
abbrev stg (c : Dev nD) (b : Ref sig .tc) (X : b.ty.Contents (Elt F)) : sProp 𝕄 := iprop(∃ f, ⌜f = X⌝ ∗ whole c b f)
omit [FloatOps F] in
/-- To own the whole view of a staging buffer at `X` is to hold it so. -/
theorem owns_stg (c : Dev nD) (b : Ref sig .tc) (X : b.ty.Contents (Elt F)) : (owns (c : Thread nD τ) (Memref.whole b) fullShare X : sProp 𝕄) = stg c b X := by
  unfold owns
  rw [Memref.view_whole, View.set_whole]
  simp only [View.read_whole]

/-- What the pipeline hands the body. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
/-- What the pipeline takes back. -/
def bodyPost' (c : Dev nD) : sProp 𝕄 :=
  iprop(Φ₁ c ∗ (dats m ρ 0 c).owesAt () t0_0.succ ∗ stg c cc0_stg0_0 (xstg m ρ c) ∗ stg c cc0_stg1_0 (rwstg m ρ c) ∗ stg c cc0_stg2_0 (ixstg m ρ c) ∗ stg c cc0_stg3_0 (ewstg m ρ c) ∗ stg c cc0_stg4_0 (swstg m ρ c) ∗ stg c cc0_stg5_0 (outAt m ρ c))

set_option maxHeartbeats 1000000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre' m ρ c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) (fun _ => bodyPost' m ρ c)
  unfold bodyPre' Φ₀ start
  iintro ⟨⟨⟨⟨%K, Hg⟩, HcB, HcV, Hlev⟩, Hb⟩, Ho, ⟨%d0, %g0, %hg0, Hx⟩, ⟨%d1, %g1, %hg1, Hrw⟩, ⟨%d2, %g2, %hg2, Hix⟩,
    ⟨%d3, %g3, %hg3, Hew⟩, ⟨%d4, %g4, %hg4, Hsw⟩, ⟨%d5, %g5, %hg5, Hout⟩⟩
  have h0 : g0 = xstg m ρ c := by rw [hg0]; unfold Dat.before; rw [if_pos (fetch0_0 t0_0)]; rfl
  have h1 : g1 = rwstg m ρ c := by rw [hg1]; unfold Dat.before; rw [if_pos (fetch0_1 t0_0)]; rfl
  have h2 : g2 = ixstg m ρ c := by rw [hg2]; unfold Dat.before; rw [if_pos (fetch0_2 t0_0)]; rfl
  have h3 : g3 = ewstg m ρ c := by rw [hg3]; unfold Dat.before; rw [if_pos (fetch0_3 t0_0)]; rfl
  have h4 : g4 = swstg m ρ c := by rw [hg4]; unfold Dat.before; rw [if_pos (fetch0_4 t0_0)]; rfl
  subst h0 h1 h2 h3 h4
  unfold Dat.owesAt Pipeline.owesWithin
  icases Ho with ⟨%W, %hW, HO⟩
  rw [show (dats m ρ 0 c).owed t0_0.castSucc = O₀ c from rfl]
  iapply (sound_body m ρ K c fun _ => bodyPost' m ρ c)
  unfold bodyPre
  isplitr []
  · isplitl [Hg HcB HcV Hlev Hb]
    · isplitl [Hg]; · iexact Hg
      isplitl [HcB]; · iexact HcB
      isplitl [HcV]; · iexact HcV
      isplitl [Hlev] <;> iassumption
    isplitl [HO]; · iexists W; iexact HO
    isplitl [Hx]; · iexact Hx
    isplitl [Hrw]; · iexact Hrw
    isplitl [Hix]; · iexact Hix
    isplitl [Hew]; · iexact Hew
    isplitl [Hsw]; · iexact Hsw
    iexists g5; iexact Hout
  · unfold bodyPost bodyPost' Dat.owesAt Pipeline.owesWithin
    rw [show (dats m ρ 0 c).owed t0_0.succ = 0 from rfl]
    iintro ⟨H, ⟨%W', HO⟩, Hx, Hrw, Hix, Hew, Hsw, Hout⟩
    isplitl [H]; · iexact H
    isplitl [HO]
    · iexists W'; isplitr; · ipureintro; exact fun _ _ => Or.inl trivial
      iexact HO
    isplitl [Hx]
    · iexists _; isplitr; · (ipureintro; rfl)
      iexact Hx
    isplitl [Hrw]
    · iexists _; isplitr; · (ipureintro; rfl)
      iexact Hrw
    isplitl [Hix]
    · iexists _; isplitr; · (ipureintro; rfl)
      iexact Hix
    isplitl [Hew]
    · iexists _; isplitr; · (ipureintro; rfl)
      iexact Hew
    isplitl [Hsw]
    · iexists _; isplitr; · (ipureintro; rfl)
      iexact Hsw
    iexists _; isplitr; · (ipureintro; rfl)
    iexact Hout

end Cert.MoeProof

end
-- ==== Proof.Run.lean ====
/-
# The launch and the run

From four devices' proved bodies to `@main`: the protocol's ghost state is minted and dealt (every duty's token to the device that
pays it), the cells' invariants are allocated from the semaphores of all the devices at once, what the devices owe each other is
the credit they wait with; then the library's theorem for a launch that starts owing gives the run.
-/
module

public import proofs.«01_k».proof.Proof.Body
public import Idealize.ShloMosaic.Lib.Pipeline.CollectiveSegs

@[expose] public section

set_option maxRecDepth 16384

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores are its scoped ones. -/
theorem ownSemFacts : Pipeline.OwnSemFacts cfg0.spec osem := by decide

/-- Every staged array is held whole. -/
theorem share_eq (c : Dev nD) (w : Fin cfg0.W) : (dats m ρ 0 c).share w = fullShare := by unfold Dat.share; split <;> rfl

/-- The seven numbers name seven semaphores. -/
theorem csem_injective : Function.Injective csem := by decide
/-- Different devices or numbers name different cells. -/
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the cells of the exchange. -/
def allCells : Finset (GSem nD τ sig) := Finset.univ.map ⟨kcell, kcell_injective⟩

/-- The duties of one device's cells: per hop one of its barrier, one of that hop's receive cell, one of its send cell. -/
def dutyAt : Fin 3 × Fin 3 → SemLoc sig × Fin 3
  | (0, h) => (.reg barS, h)
  | (1, h) => (.dma (rcvS h), 0)
  | (2, h) => (.dma (sndS h), 0)
/-- The nine duties of a device differ. -/
theorem dutyAt_injective : Function.Injective dutyAt := by decide
/-- The token of a duty of a device. -/
def tokAt (x : Dev nD × (Fin 3 × Fin 3)) : GSem nD τ sig × ℕ × Fin 3 := (((x.1 : Thread nD τ), (dutyAt x.2).1), 0, (dutyAt x.2).2)
/-- The tokens of the duties differ. -/
theorem tokAt_injective : Function.Injective tokAt := by
  rintro ⟨c, x⟩ ⟨c', x'⟩ h
  have h1 : c = c' := congrArg (fun g : GSem nD τ sig × ℕ × Fin 3 => g.1.1.1) h
  have h2 : x = x' := dutyAt_injective (congrArg (fun g : GSem nD τ sig × ℕ × Fin 3 => (g.1.2, g.2.2)) h)
  rw [h1, h2]
/-- All the tokens. -/
def allToks : Finset (GSem nD τ sig × ℕ × Fin 3) := Finset.univ.map ⟨tokAt, tokAt_injective⟩

/-- The ghost state at the start. -/
def u₀ : UU := (initOf (Pipeline.cells cfgs cellOf_inj) (Pipeline.launchToks cfgs cellOf_inj), initOf allCells allToks)

/-- The tokens of one device's own cells, as minted. -/
def ownToks (c : Dev nD) : sProp 𝕄 :=
  iprop((bigSep Finset.univ fun h : Fin 3 => dutyTok ER (barCell c) 0 h) ∗ (bigSep Finset.univ fun h : Fin 3 => dutyTok ER (rcvCell h c) 0 0)
    ∗ (bigSep Finset.univ fun h : Fin 3 => dutyTok ER (sndCell h c) 0 0))

/-- What the launch deals device `c`. -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ ownToks c)
/-- What the step over all devices makes of it. -/
def G' (c : Dev nD) : sProp 𝕄 := iprop(∃ K, ghost m ρ K c)

/-- The rounds' ghost state funds every device's part. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    rw [bigSep_univ_prod, bigSep_fin3]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores become the cells -/

omit [FloatOps F] in
/-- The zeroed counters of a device's own semaphores, one by one. -/
theorem ownSems0_eq (c : Dev nD) : (Pipeline.ownSems0 (Ix := Unit) (Name := ℕ) (U := UU) (Lvl := ℕ) (Val := Elt F) (τ := τ) osem c : sProp 𝕄)
    = iprop(semVal (sndCell 0 c) 0 ∗ semVal (sndCell 1 c) 0 ∗ semVal (sndCell 2 c) 0 ∗ semVal (rcvCell 0 c) 0 ∗ semVal (rcvCell 1 c) 0 ∗ semVal (rcvCell 2 c) 0) := by
  rw [Pipeline.ownSems0_eq_of_list c osem [0, 1, 2, 3, 4, 5] (by decide) (by decide)]; rfl
omit [FloatOps F] in
/-- The one other counter of a device is its barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier's semaphore and the kernel's own six are the seven cells' counters. -/
theorem sems_eq (c : Dev nD) : (iprop(unscopedSems0 c ∗ Pipeline.ownSems0 (Ix := Unit) (Name := ℕ) (U := UU) (Lvl := ℕ) (Val := Elt F) (τ := τ) osem c) : sProp 𝕄)
    = bigSep Finset.univ fun k : Fin 7 => semVal (kcell (c, k)) 0 := by
  rw [ownSems0_eq, unscopedSems0_eq, zeros_eq]

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens go to the devices that pay -/

/-- A hop and the hop back: an involution of (device, hop). -/
def there : Dev nD × Fin 3 ≃ Dev nD × Fin 3 where
  toFun x := (fwd x.2 x.1, rev x.2)
  invFun x := (fwd x.2 x.1, rev x.2)
  left_inv x := by simp only [fwd_rev, rev_rev]
  right_inv x := by simp only [fwd_rev, rev_rev]
/-- The device a hop reaches, the hop kept. -/
def along : Dev nD × Fin 3 ≃ Dev nD × Fin 3 where
  toFun x := (fwd x.2 x.1, x.2)
  invFun x := (bwd x.2 x.1, x.2)
  left_inv x := by simp only [bwd_fwd]
  right_inv x := by simp only [fwd_bwd]

omit [FloatOps F] in
/-- What is held for every pair may be dealt along any exchange of the pairs. -/
theorem deal (e : Dev nD × Fin 3 ≃ Dev nD × Fin 3) (Φ : Dev nD × Fin 3 → sProp 𝕄) :
    (bigSep Finset.univ fun c : Dev nD => bigSep Finset.univ fun h : Fin 3 => Φ (c, h))
      = bigSep Finset.univ fun c : Dev nD => bigSep Finset.univ fun h : Fin 3 => Φ (e (c, h)) := by
  rw [← bigSep_univ_prod Φ, bigSep_univ_equiv e Φ, bigSep_univ_prod]

omit [FloatOps F] in
/-- Every token goes to the device that pays it. -/
theorem toks_around : (bigSep Finset.univ fun c : Dev nD => (ownToks c : sProp 𝕄))
    = bigSep Finset.univ fun c : Dev nD => bigSep Finset.univ fun h : Fin 3 => hopToks c h := by
  unfold ownToks hopToks
  simp only [bigSep_sep']
  rw [deal there fun x => dutyTok ER (barCell x.1) 0 x.2, deal along fun x => dutyTok ER (rcvCell x.2 x.1) 0 0]
  rfl

omit [FloatOps F] in
/-- A fact that may be used again serves each of many. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The dealt state, device by device. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄)), toks_around]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  iapply (bigSep_beside (R := records m ρ K) (Φ := fun c : Dev nD => linear c) fun c _ => by
    unfold G' ghost; iintro ⟨H1, H2⟩; iexists K; isplitl [H1] <;> iassumption)
  isplitr
  · unfold records; isplitl; · iexact HI
    iexact HR
  · unfold linear; rw [bigSep_sep']
    isplitl [Hat] <;> iassumption

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed is what is waited for -/

/-- Barrier cells differ as their devices do. -/
theorem bar_inj {a b : Dev nD} : barCell a = barCell b ↔ a = b := ⟨fun h => congrArg (fun g : GSem nD τ sig => g.1.1) h, fun h => h ▸ rfl⟩
/-- The receive semaphores of the hops differ. -/
theorem rcvS_injective : Function.Injective rcvS := by decide
/-- Receive cells differ as their hops and devices do. -/
theorem rcv_inj {h k : Fin 3} {a b : Dev nD} : rcvCell h a = rcvCell k b ↔ h = k ∧ a = b :=
  ⟨fun e => ⟨rcvS_injective (by have := congrArg Prod.snd e; injection this), congrArg (fun g : GSem nD τ sig => g.1.1) e⟩, fun ⟨h1, h2⟩ => by rw [h1, h2]⟩
/-- No receive cell is a barrier. -/
theorem rcv_ne_bar {h : Fin 3} {a b : Dev nD} : rcvCell h a ≠ barCell b := fun e => by have := congrArg Prod.snd e; injection this
/-- `c` is a hop ahead of `d` just if `d` is that hop behind `c`. -/
theorem fwd_eq_iff {h : Fin 3} {c d : Dev nD} : c = fwd h d ↔ d = bwd h c :=
  ⟨fun e => by rw [e, bwd_fwd], fun e => by rw [e, fwd_bwd]⟩

/-- What a device owes to `c`'s barrier at the start. -/
theorem owed_bar (d c : Dev nD) : O₀ d (barCell c) () = (if d = bwd 2 c then 1 else 0) + (if d = bwd 1 c then 1 else 0) + (if d = bwd 0 c then 1 else 0) := by
  unfold O₀ oSend
  simp only [Pi.add_apply, Finsupp.add_apply, tallyAt_apply, bar_inj, fwd_eq_iff, rcv_ne_bar.symm, and_true, false_and, if_false, Nat.zero_add]
/-- What a device owes to a receive cell of `c` at the start. -/
theorem owed_rcv (h : Fin 3) (d c : Dev nD) : O₀ d (rcvCell h c) () = if d = bwd h c then N else 0 := by
  unfold O₀ oSend
  simp only [Pi.add_apply, Finsupp.add_apply, tallyAt_apply, rcv_inj, fwd_eq_iff, rcv_ne_bar, and_true, false_and, if_false, Nat.add_zero]
  fin_cases h <;> simp [fwd_eq_iff]

/-- The devices together owe 3 to a barrier. -/
theorem launch_bar (c : Dev nD) : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
/-- The devices together owe a row's credit to a receive cell. -/
theorem launch_rcv (h : Fin 3) (c : Dev nD) : tallyOn (rcvCell h c) (launchCredit (Pipeline.owing O₀) 0 (rcvCell h c)) = (tallyAt (rcvCell h c) () N : CellTallies nD τ sig Unit) := by
  unfold tallyAt; refine congrArg _ (Finsupp.ext fun u => ?_); cases u
  rw [Pipeline.launchCredit_owing, Finsupp.single_eq_same, Finset.sum_congr rfl fun d _ => owed_rcv h d c]
  simp only [Finset.sum_ite_eq', Finset.mem_univ, if_true]

omit [FloatOps F] in
/-- The credits that a device starts with. -/
theorem creds (c : Dev nD) : (Pipeline.launchCred O₀ c : sProp 𝕄)
    ⊢ iprop(cred (tallyAt (barCell c) () 3) ∗ bigSep Finset.univ fun h : Fin 3 => cred (tallyAt (rcvCell h c) () N)) := by
  unfold Pipeline.launchCred
  rw [bigSep_univ_at _ (SemLoc.reg barS), launch_bar]
  refine sep_mono_right ?_
  refine (bigSep_subset (t := Finset.univ.map ⟨fun h : Fin 3 => SemLoc.dma (rcvS h), fun a b e => rcvS_injective (by injection e)⟩) ?_).trans ?_
  · intro x hx
    obtain ⟨h, -, rfl⟩ := Finset.mem_map.mp hx
    exact Finset.mem_erase.mpr ⟨fun e => by injection e, Finset.mem_univ _⟩
  · rw [bigSep_map]
    exact bigSep_mono fun h _ => Entails.of_eq (congrArg cred (launch_rcv h c))

/-! ## The launch's side conditions -/

/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

/-- With the two buffers, that is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs] <;> iassumption

/-- The state after the body gives back the buffers and every counter at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  rw [← sems_eq]
  iintro ⟨Hr, Hu, Ho⟩
  isplitl [Hu]; · iexact Hu
  isplitl [Ho] <;> iassumption

/-- The pipeline's own waits are below all that is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

/-- After the run every array of a window holds its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, at any float values, from any memory with zero counters: every weakly fair execution of `@main` ends, with
    the arrays of every device as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem final_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.MoeProof

end
-- ==== Proof.Maths.lean ====
/-
# The mathematics of one token

A token has sixteen router scores. Their softmax gives sixteen weights. The token names one expert by a 32-bit index, and the
routed part of its result is that expert's weight times the expert's row. This module states these as plain functions over the
extended reals, and proves that four devices with four experts each make up the routed part, if the scores are finite.
-/
module

public import Idealize.ShloMosaic.PureOps.Ideal
public import Idealize.ShloMosaic.PureOps.Ideal.Laws
public import Mathlib.Data.EReal.Operations

@[expose] public section

noncomputable section

namespace Cert.MoeProof

open Idealize.ShloMosaic

/-- The weight of expert `j` of a token with scores `s`: `exp (s j - max s)` over the sum of these. -/
def prob (s : Fin 16 → EReal) (j : Fin 16) : EReal :=
  Ideal.div (Ideal.exp (s j - (Finset.univ : Finset (Fin 16)).fold max ⊥ s)) (∑ k, Ideal.exp (s k - (Finset.univ : Finset (Fin 16)).fold max ⊥ s))

/-- The weight at the index word `i`: the sum of the weights whose position is `i` (of one weight, or of none). -/
def gate (s : Fin 16 → EReal) (i : BitVec 32) : EReal := ∑ j : Fin 16, if BitVec.ofNat 32 j.val = i then prob s j else 0

/-- What device `d` adds: each of its four experts whose number is `i` puts in its row, weighted by `g`. -/
def share (d : Fin 4) (i : BitVec 32) (g : EReal) (x : Fin 256 → EReal) (W : Fin 16 → Fin 256 → EReal) : EReal :=
  ∑ e : Fin 4, ∑ k : Fin 256, (if i = BitVec.ofNat 32 (4 * d.val + e.val) then g * x k else 0) * W ⟨4 * d.val + e.val, by omega⟩ k

/-- The routed part: nothing if `i` names no expert, else the named expert's weight times its row. -/
def routed (s : Fin 16 → EReal) (i : BitVec 32) (x : Fin 256 → EReal) (W : Fin 16 → Fin 256 → EReal) : EReal :=
  if h : i.toNat < 16 then prob s ⟨i.toNat, h⟩ * ∑ k, x k * W ⟨i.toNat, h⟩ k else 0

/-- The word of minus infinity. -/
theorem ofBits_neg_inf : Ideal.ofBits .f32 0xFF800000#32 = ⊥ := by simp [Ideal.ofBits, Ideal.ieee]
/-- The word of plus infinity. -/
theorem ofBits_pos_inf : Ideal.ofBits .f32 0x7F800000#32 = ⊤ := by simp [Ideal.ofBits, Ideal.ieee]

/-- A sum of finite numbers is finite. -/
theorem finite_sum {ι : Type} (t : Finset ι) (f : ι → EReal) (h : ∀ i, ∃ r : ℝ, f i = r) : ∃ r : ℝ, ∑ i ∈ t, f i = r := by
  classical
  choose g hg using h
  refine ⟨∑ i ∈ t, g i, ?_⟩
  induction t using Finset.induction_on with
  | empty => simp
  | insert a t ha ih => rw [Finset.sum_insert ha, Finset.sum_insert ha, ih, hg, EReal.coe_add]

/-- The greatest of sixteen finite scores is finite. -/
theorem finite_max (s : Fin 16 → EReal) (h : ∀ j, ∃ r : ℝ, s j = r) : ∃ r : ℝ, (Finset.univ : Finset (Fin 16)).fold max ⊥ s = r := by
  obtain ⟨i, -, hi⟩ := Finset.exists_mem_eq_sup (Finset.univ : Finset (Fin 16)) ⟨0, Finset.mem_univ _⟩ s
  obtain ⟨r, hr⟩ := h i
  exact ⟨r, (show (Finset.univ : Finset (Fin 16)).fold max ⊥ s = Finset.univ.sup s from rfl).trans (hi.trans hr)⟩

/-- Of finite scores, a weight is a non-negative finite number. -/
theorem prob_finite (s : Fin 16 → EReal) (h : ∀ j, ∃ r : ℝ, s j = r) (j : Fin 16) : ∃ r : ℝ, 0 ≤ r ∧ prob s j = r := by
  obtain ⟨M, hM⟩ := finite_max s h
  choose r hr using h
  have he : ∀ k, Ideal.exp (s k - (M : EReal)) = ((Real.exp (r k - M) : ℝ) : EReal) := fun k => by
    rw [hr k, ← EReal.coe_sub, Ideal.exp_coe]
  have hs : ∀ t : Finset (Fin 16), (∑ k ∈ t, ((Real.exp (r k - M) : ℝ) : EReal)) = ((∑ k ∈ t, Real.exp (r k - M) : ℝ) : EReal) := fun t => by
    induction t using Finset.induction_on with
    | empty => simp
    | insert a t ha ih => rw [Finset.sum_insert ha, Finset.sum_insert ha, ih, EReal.coe_add]
  have hpos : 0 < ∑ k : Fin 16, Real.exp (r k - M) := Finset.sum_pos (fun k _ => Real.exp_pos _) ⟨0, Finset.mem_univ _⟩
  refine ⟨Real.exp (r j - M) * (1 / ∑ k : Fin 16, Real.exp (r k - M)), by positivity, ?_⟩
  unfold prob
  rw [hM, he, Finset.sum_congr rfl (fun k _ => he k), hs, Ideal.div_coe hpos.ne', EReal.coe_mul]

/-- A finite non-negative factor goes into a sum of any extended reals. -/
theorem finite_mul_sum {ι : Type} (t : Finset ι) (f : ι → EReal) (g : EReal) (h0 : 0 ≤ g) (ht : g ≠ ⊤) : g * ∑ i ∈ t, f i = ∑ i ∈ t, g * f i := by
  classical
  induction t using Finset.induction_on with
  | empty => simp
  | insert a t ha ih => rw [Finset.sum_insert ha, Finset.sum_insert ha, EReal.left_distrib_of_nonneg_of_ne_top h0 ht, ih]

/-- Words of two small numbers agree only if the numbers do. -/
theorem word_inj {a b : ℕ} (ha : a < 16) (hb : b < 16) : BitVec.ofNat 32 a = BitVec.ofNat 32 b ↔ a = b :=
  ⟨fun h => by have := congrArg BitVec.toNat h; simp only [BitVec.toNat_ofNat] at this; omega, fun h => by rw [h]⟩

/-- At the index of expert `n` the gate is that expert's weight. -/
theorem gate_named (s : Fin 16 → EReal) (n : Fin 16) : gate s (BitVec.ofNat 32 n.val) = prob s n := by
  unfold gate
  rw [Finset.sum_eq_single n (fun j _ hj => if_neg fun h => hj (Fin.ext ((word_inj j.2 n.2).1 h))) (fun h => absurd (Finset.mem_univ _) h)]
  exact if_pos rfl

/-- A device with none of the named experts adds nothing. -/
theorem share_other (d : Fin 4) (i : BitVec 32) (g : EReal) (x : Fin 256 → EReal) (W : Fin 16 → Fin 256 → EReal)
    (h : ∀ e : Fin 4, i ≠ BitVec.ofNat 32 (4 * d.val + e.val)) : share d i g x W = 0 :=
  Finset.sum_eq_zero fun e _ => Finset.sum_eq_zero fun k _ => by rw [if_neg (h e), zero_mul]

/-- The device that has the named expert adds that expert's weighted row. -/
theorem share_named (d e : Fin 4) (g : EReal) (x : Fin 256 → EReal) (W : Fin 16 → Fin 256 → EReal) :
    share d (BitVec.ofNat 32 (4 * d.val + e.val)) g x W = ∑ k, g * x k * W ⟨4 * d.val + e.val, by omega⟩ k := by
  unfold share
  rw [Finset.sum_eq_single e (fun e' _ he => Finset.sum_eq_zero fun k _ => by
      rw [if_neg (fun h => he (Fin.ext (by have := (word_inj (by omega) (by omega)).1 h; omega))), zero_mul]) (fun h => absurd (Finset.mem_univ _) h)]
  exact Finset.sum_congr rfl fun k _ => by rw [if_pos rfl]

/-- The four devices' shares make up the routed part, if the scores are finite. -/
theorem shares_eq (s : Fin 16 → EReal) (hs : ∀ j, ∃ r : ℝ, s j = r) (i : BitVec 32) (x : Fin 256 → EReal) (W : Fin 16 → Fin 256 → EReal) :
    ∑ d : Fin 4, share d i (gate s i) x W = routed s i x W := by
  unfold routed
  split
  · next h =>
    obtain ⟨r, h0, hr⟩ := prob_finite s hs ⟨i.toNat, h⟩
    have hi : i = BitVec.ofNat 32 i.toNat := by simp
    have hd : i.toNat = 4 * (i.toNat / 4) + i.toNat % 4 := by omega
    rw [Finset.sum_eq_single ⟨i.toNat / 4, by omega⟩ (fun d _ hne => share_other d i _ x W fun e he => hne (Fin.ext (by
        rw [hi, word_inj h (by omega)] at he; show d.val = i.toNat / 4; omega))) (fun h => absurd (Finset.mem_univ _) h)]
    have hg : gate s i = prob s ⟨i.toNat, h⟩ := by
      have := gate_named s ⟨i.toNat, h⟩
      rwa [← hi] at this
    have hw := share_named ⟨i.toNat / 4, by omega⟩ ⟨i.toNat % 4, by omega⟩ (gate s i) x W
    simp only [← hd, ← hi] at hw
    rw [hw, hg, finite_mul_sum _ _ _ (by rw [hr]; exact_mod_cast h0) (by rw [hr]; exact EReal.coe_ne_top r)]
    exact Finset.sum_congr rfl fun k _ => mul_assoc _ _ _
  · next h =>
    exact Finset.sum_eq_zero fun d _ => share_other d i _ x W fun e he => h (by
      rw [he, BitVec.toNat_ofNat]; omega)

end Cert.MoeProof

end
-- ==== Proof.Chunk.lean ====
/-
# What one device computes, at an index

Over the extended reals: the gate, one device's part of 256 tokens, and the shared expert's rows, each read at one index as the
plain sums of the module on one token.
-/
module

public import proofs.«01_k».proof.Proof.Protocol
public import proofs.«01_k».proof.Proof.Maths
public import Idealize.ShloMosaic.Lib.Pointwise

@[expose] public section

set_option maxRecDepth 16384

noncomputable section

namespace Cert.MoeProof

open Cert.KernelIdeal Cert.KernelIdeal.Gen
open Idealize.ShloMosaic

/-- The scores of a row: its product with the router's weights. -/
def scores (x : Fin 256 → EReal) (rw : S256x16.Idx → EReal) (j : Fin 16) : EReal := ∑ k : Fin 256, x k * rw (ix2 k j)

/-- A choice by the comparison of two words. -/
theorem select_word {α : Type} (a b : BitVec 32) (u v : α) : Scalar.select (IntOp.cmpi .eq a b) u v = if a = b then u else v := by
  unfold Scalar.select IntOp.cmpi
  by_cases h : a = b
  · subst h; simp
  · have hb : (a == b) = false := beq_eq_false_iff_ne.2 h
    simp [h, hb]

/-- The kernel's gate of a row is the weight at the row's index. -/
theorem gate_apply (x : Vec Ideal S256x256 .f32) (ix : Vec Ideal S256x1 .i32) (rw : Vec Ideal S256x16 .f32) (r : S256x1.Idx) :
    k0_pay22 (F := Ideal) x ix rw r = gate (scores (fun k => x (ix2 (r 0) k)) rw) (ix (ix2 (r 0) 0)) := by
  unfold k0_pay22 k0_pay20 k0_pay21
  pointwise
  unfold gate prob scores
  refine Finset.sum_congr rfl fun j _ => ?_
  rw [ofBits_neg_inf, select_word]

/-- The number of expert `e` of device `d`, as the kernel computes it. -/
theorem expert_word (d : Dev nD) :
    Scalar.addi (Scalar.muli (pos d) 4#32) 0#32 = BitVec.ofNat 32 (4 * d.val + 0) ∧ Scalar.addi (Scalar.muli (pos d) 4#32) 1#32 = BitVec.ofNat 32 (4 * d.val + 1)
      ∧ Scalar.addi (Scalar.muli (pos d) 4#32) 2#32 = BitVec.ofNat 32 (4 * d.val + 2) ∧ Scalar.addi (Scalar.muli (pos d) 4#32) 3#32 = BitVec.ofNat 32 (4 * d.val + 3) := by
  revert d; decide +kernel

/-- A device's part of 256 tokens: of its four experts' weighted rows, those of the tokens that name them. -/
theorem part_apply (d : Dev nD) (x : Vec Ideal S256x256 .f32) (ix : Vec Ideal S256x1 .i32) (rw : Vec Ideal S256x16 .f32) (ew : Vec Ideal S4x256x512 .f32) (j : S256x512.Idx) :
    part (F := Ideal) (pos d) x ix rw ew j = ∑ e : Fin 4, ∑ k : Fin 256,
      (if ix (ix2 (j 0) 0) = BitVec.ofNat 32 (4 * d.val + e.val) then gate (scores (fun k => x (ix2 (j 0) k)) rw) (ix (ix2 (j 0) 0)) * x (ix2 (j 0) k) else 0) * ew (ix3 e k (j 1)) := by
  obtain ⟨h0, h1, h2, h3⟩ := expert_word d
  have hg : ∀ r, k0_pay22 (F := Ideal) x ix rw r = gate (scores (fun k => x (ix2 (r 0) k)) rw) (ix (ix2 (r 0) 0)) := gate_apply x ix rw
  have he : ∀ (n : ℕ) (e : Fin 4) (k : Fin 256) (p : n / 256 < 4) (q : n % 256 < 256), n = 256 * e.val + k.val →
      ew (ix3 (⟨n / 256, p⟩ : Fin 4) (⟨n % 256, q⟩ : Fin 256) (j 1)) = ew (ix3 e k (j 1)) := fun n e k p q hn => by
    rw [show (⟨n / 256, p⟩ : Fin 4) = e from Fin.ext (by simp only; omega), show (⟨n % 256, q⟩ : Fin 256) = k from Fin.ext (by simp only; omega)]
  unfold part k0_pay25 k0_pay23 k0_pay24
  generalize k0_pay22 x ix rw = g at hg ⊢
  unfold k0_pay20 k0_pay21 k0_pay1
  pointwise [sumSplitAll]
  simp only [select_word, h0, h1, h2, h3, hg, ← Nat.add_assoc]
  refine Eq.trans ?_ ((Fin.sum_univ_four _).trans ((add_assoc _ _ _).trans (add_assoc _ _ _))).symm
  refine congrArg₂ (· + ·) ?_ (congrArg₂ (· + ·) ?_ (congrArg₂ (· + ·) ?_ ?_)) <;> refine Finset.sum_congr rfl fun k _ => ?_
  · rw [ite_mul, zero_mul]; exact ite_congr rfl (fun _ => congrArg _ (he _ 0 k _ _ (by simp))) (fun _ => rfl)
  · rw [ite_mul, zero_mul]; exact ite_congr rfl (fun _ => congrArg _ (he _ 1 k _ _ (by simp))) (fun _ => rfl)
  · rw [ite_mul, zero_mul]; exact ite_congr rfl (fun _ => congrArg _ (he _ 2 k _ _ (by simp))) (fun _ => rfl)
  · rw [ite_mul, zero_mul]; exact ite_congr rfl (fun _ => congrArg _ (he _ 3 k _ _ (by simp))) (fun _ => rfl)

/-- The shared expert's rows. -/
theorem shared_apply (x : Vec Ideal S256x256 .f32) (sw : Vec Ideal S256x512 .f32) (j : S256x512.Idx) :
    k0_pay26 (F := Ideal) x sw j = ∑ k : Fin 256, x (ix2 (j 0) k) * sw (ix2 k (j 1)) := by
  unfold k0_pay26
  pointwise

/-- The last sum: the device's own part, the shared expert's rows, and the three parts received. -/
theorem total_apply (a b p q r : FVec Ideal S256x512 .f32) (j : S256x512.Idx) :
    k0_pay27 (F := Ideal) a b (shapeCast S1x256x512 (truncf .bf16 p bitsLt_bf16_f32) shapeCasts_S256x512_S1x256x512)
      (shapeCast S1x256x512 (truncf .bf16 q bitsLt_bf16_f32) shapeCasts_S256x512_S1x256x512)
      (shapeCast S1x256x512 (truncf .bf16 r bitsLt_bf16_f32) shapeCasts_S256x512_S1x256x512) j = a j + b j + p j + q j + r j := by
  unfold k0_pay27
  pointwise

end Cert.MoeProof

end
-- ==== Proof.RefValue.lean ====
/-
# What the reference computes, at an index
-/
module

public import proofs.«01_k».proof.Proof.Chunk
public import proofs.«01_k».proof.Proof.Gen.ReferenceIdeal.Run
public import Idealize.ShloMosaic.Lib.Pointwise

@[expose] public section

set_option maxRecDepth 16384

noncomputable section

namespace Cert.MoeProof

open Idealize.ShloMosaic

section Gathers
open Cert.ReferenceIdeal Cert.ReferenceIdeal.Gen

/-- The first coordinate of an index of rank two, by any name of its axis. -/
theorem row2 {n m : ℕ} (a : Fin 2) (t : Fin n) (k : Fin m) (h : a = 0) : (ix2 t k a).val = t.val := by subst h; rfl
/-- The first coordinate of an index of rank three, by any name of its axis. -/
theorem row3 {n m l : ℕ} (a : Fin 3) (t : Fin n) (k : Fin m) (h : Fin l) (ha : a = 0) : (ix3 t k h a).val = t.val := by subst ha; rfl

/-- The first gather reads, of each row, the entry its start names. -/
theorem gather_prob (p : FVec Ideal S1024x16 .f32) (q : IVec S1024x1x1 32) (t : Fin 1024) (i : ℕ) (hi : i < 16)
    (hq : (q (ix3 t 0 0)).toInt.toNat = i) :
    Host.gather gather_S1024x16_S1024x1x1_S1024x1_n_1_0_0_1_2_11 p q (ix2 t 0) = p (ix2 t ⟨i, hi⟩) := by
  unfold Host.gather
  congr 1
  funext a
  apply Fin.ext
  fin_cases a
  · show gather_S1024x16_S1024x1x1_S1024x1_n_1_0_0_1_2_11.start (ix2 t 0) q (0 : Fin 2) + gather_S1024x16_S1024x1x1_S1024x1_n_1_0_0_1_2_11.batchCoord (ix2 t 0) (0 : Fin 2) + gather_S1024x16_S1024x1x1_S1024x1_n_1_0_0_1_2_11.offCoord (ix2 t 0) (0 : Fin 2) = t.val
    rw [GatherDims.start_batching _ _ _ _ (by decide +kernel), GatherDims.offCoord_eq_zero _ _ _ (by decide +kernel), GatherDims.batchCoord, dif_pos (by decide +kernel)]
    simp only [Nat.zero_add, Nat.add_zero]
    unfold GatherDims.siCoord
    exact row2 _ t 0 (by decide +kernel)
  · show gather_S1024x16_S1024x1x1_S1024x1_n_1_0_0_1_2_11.start (ix2 t 0) q (1 : Fin 2) + gather_S1024x16_S1024x1x1_S1024x1_n_1_0_0_1_2_11.batchCoord (ix2 t 0) (1 : Fin 2) + gather_S1024x16_S1024x1x1_S1024x1_n_1_0_0_1_2_11.offCoord (ix2 t 0) (1 : Fin 2) = i
    rw [GatherDims.batchCoord_eq_zero _ _ _ (by decide +kernel), GatherDims.offCoord_eq_zero _ _ _ (by decide +kernel), GatherDims.start, dif_pos (by decide +kernel)]
    rw [show gather_S1024x16_S1024x1x1_S1024x1_n_1_0_0_1_2_11.siIdx (ix2 t 0) _ = ix3 t 0 0 from ?_, hq]
    · show min i 15 + 0 + 0 = i
      omega
    · funext b
      apply Fin.ext
      fin_cases b
      · unfold GatherDims.siIdx GatherDims.siCoord
        rw [dif_neg (by decide +kernel)]
        exact row2 _ t 0 (by decide +kernel)
      · exact Nat.lt_one_iff.1 (Fin.isLt _)
      · exact Nat.lt_one_iff.1 (Fin.isLt _)

/-- The second gather reads the expert its start names. -/
theorem gather_weight (w : FVec Ideal S16x256x512 .f32) (q : IVec S1024x1 32) (t : Fin 1024) (k : Fin 256) (h : Fin 512) (i : ℕ) (hi : i < 16)
    (hq : (q (ix2 t 0)).toInt.toNat = i) :
    Host.gather gather_S16x256x512_S1024x1_S1024x256x512_12_0_n_n_0_1_1256512 w q (ix3 t k h) = w (ix3 ⟨i, hi⟩ k h) := by
  unfold Host.gather
  congr 1
  funext a
  apply Fin.ext
  fin_cases a
  · show gather_S16x256x512_S1024x1_S1024x256x512_12_0_n_n_0_1_1256512.start (ix3 t k h) q (0 : Fin 3) + gather_S16x256x512_S1024x1_S1024x256x512_12_0_n_n_0_1_1256512.batchCoord (ix3 t k h) (0 : Fin 3) + gather_S16x256x512_S1024x1_S1024x256x512_12_0_n_n_0_1_1256512.offCoord (ix3 t k h) (0 : Fin 3) = i
    rw [GatherDims.batchCoord_eq_zero _ _ _ (by decide +kernel), GatherDims.offCoord_eq_zero _ _ _ (by decide +kernel), GatherDims.start, dif_pos (by decide +kernel)]
    rw [show gather_S16x256x512_S1024x1_S1024x256x512_12_0_n_n_0_1_1256512.siIdx (ix3 t k h) _ = ix2 t 0 from ?_, hq]
    · show min i 15 + 0 + 0 = i
      omega
    · funext b
      apply Fin.ext
      fin_cases b
      · unfold GatherDims.siIdx GatherDims.siCoord
        rw [dif_neg (by decide +kernel)]
        exact row3 _ t k h (by decide +kernel)
      · exact Nat.lt_one_iff.1 (Fin.isLt _)
  · show gather_S16x256x512_S1024x1_S1024x256x512_12_0_n_n_0_1_1256512.start (ix3 t k h) q (1 : Fin 3) + gather_S16x256x512_S1024x1_S1024x256x512_12_0_n_n_0_1_1256512.batchCoord (ix3 t k h) (1 : Fin 3) + gather_S16x256x512_S1024x1_S1024x256x512_12_0_n_n_0_1_1256512.offCoord (ix3 t k h) (1 : Fin 3) = k.val
    rw [GatherDims.batchCoord_eq_zero _ _ _ (by decide +kernel), GatherDims.start, dif_neg (by decide +kernel), GatherDims.offCoord, dif_pos (by decide +kernel)]
    simp only [Nat.zero_add]
    rfl
  · show gather_S16x256x512_S1024x1_S1024x256x512_12_0_n_n_0_1_1256512.start (ix3 t k h) q (2 : Fin 3) + gather_S16x256x512_S1024x1_S1024x256x512_12_0_n_n_0_1_1256512.batchCoord (ix3 t k h) (2 : Fin 3) + gather_S16x256x512_S1024x1_S1024x256x512_12_0_n_n_0_1_1256512.offCoord (ix3 t k h) (2 : Fin 3) = h.val
    rw [GatherDims.batchCoord_eq_zero _ _ _ (by decide +kernel), GatherDims.start, dif_neg (by decide +kernel), GatherDims.offCoord, dif_pos (by decide +kernel)]
    simp only [Nat.zero_add]
    rfl

/-- The index test: the choice is the first value exactly if the word is one of the sixteen numbers. -/
theorem select_named {α : Type} (w : BitVec 32) (u v : α) :
    Scalar.select (IntOp.andi (IntOp.cmpi .sge w 0#32) (IntOp.cmpi .slt w 16#32)) u v = if w.toNat < 16 then u else v := by
  have h : (IntOp.andi (IntOp.cmpi .sge w 0#32) (IntOp.cmpi .slt w 16#32) = 1#1) ↔ (0#32).sle w = true ∧ w.slt 16#32 = true := by
    show BitVec.ofBool ((0#32).sle w) &&& BitVec.ofBool (w.slt 16#32) = 1#1 ↔ _
    cases (0#32).sle w <;> cases w.slt 16#32 <;> decide
  have hw := w.isLt
  refine if_congr (h.trans ?_) rfl rfl
  rw [BitVec.sle_iff_toInt_le, BitVec.slt_iff_toInt_lt, BitVec.toInt_eq_toNat_cond w, show (0#32).toInt = 0 from rfl, show (16#32).toInt = 16 from rfl]
  split <;> omega

/-- Sixteen words to look at. -/
theorem word_named (P : BitVec 32 → Prop) (hP : ∀ n : Fin 16, P (BitVec.ofNat 32 n.val)) (w : BitVec 32) (hw : w.toNat < 16) : P w := by
  have := hP ⟨w.toNat, hw⟩
  rwa [show BitVec.ofNat 32 (⟨w.toNat, hw⟩ : Fin 16).val = w from by simp] at this

/-- A word that is one of the sixteen numbers is not changed by the cut to that range. -/
theorem clip_named (w : BitVec 32) (hw : w.toNat < 16) : IntOp.minsi 15#32 (IntOp.maxsi 0#32 w) = w :=
  word_named (fun w => IntOp.minsi 15#32 (IntOp.maxsi 0#32 w) = w) (by decide) w hw
/-- Such a word is not negative. -/
theorem wrap_named (w : BitVec 32) (hw : w.toNat < 16) : Scalar.select (IntOp.cmpi .slt w 0#32) (IntOp.addi w 16#32) w = w :=
  word_named (fun w => Scalar.select (IntOp.cmpi .slt w 0#32) (IntOp.addi w 16#32) w = w) (by decide) w hw
/-- Such a word read with its sign is itself. -/
theorem toInt_named (w : BitVec 32) (hw : w.toNat < 16) : w.toInt.toNat = w.toNat := by
  rw [BitVec.toInt_eq_toNat_of_lt (by omega)]; rfl

/-- The reference's result, of its five arguments. -/
def refOut (x : FVec Ideal S1024x256 .f32) (rw : FVec Ideal S256x16 .f32) (ix : IVec S1024x1 32) (ew : FVec Ideal S16x256x512 .f32) (sw : FVec Ideal S256x512 .f32) :
    FVec Ideal S1024x512 .f32 :=
  addf (Host.dotGeneral dot_S1024x256_S256x512_S1024x512_1_0_0_1_n_n none x sw) (mulf (broadcastInDim S1024x512 ![0, 1] bcast_S1024x1_S1024x512_0_1 (select (andi (cmpi .sge ix (broadcastInDim S1024x1 ![] bcast_S_S1024x1 (constantI S_ 32 0#32))) (cmpi .slt ix (broadcastInDim S1024x1 ![] bcast_S_S1024x1 (constantI S_ 32 16#32)))) (Host.gather gather_S1024x16_S1024x1x1_S1024x1_n_1_0_0_1_2_11 (Host.divf (Host.exp (subf (Host.dotGeneral dot_S1024x256_S256x16_S1024x16_1_0_0_1_n_n none x rw) (broadcastInDim S1024x16 ![0, 1] bcast_S1024x1_S1024x16_0_1 (broadcastInDim S1024x1 ![0] bcast_S1024_S1024x1_0 (Host.reduce FloatOps.maximumf (Host.dotGeneral dot_S1024x256_S256x16_S1024x16_1_0_0_1_n_n none x rw) (constant S_ .f32 0xFF800000#32) reducesTo_S1024x16_S1024_d1 h_S_))))) (broadcastInDim S1024x16 ![0, 1] bcast_S1024x1_S1024x16_0_1 (broadcastInDim S1024x1 ![0] bcast_S1024_S1024x1_0 (Host.reduceAdd (Host.exp (subf (Host.dotGeneral dot_S1024x256_S256x16_S1024x16_1_0_0_1_n_n none x rw) (broadcastInDim S1024x16 ![0, 1] bcast_S1024x1_S1024x16_0_1 (broadcastInDim S1024x1 ![0] bcast_S1024_S1024x1_0 (Host.reduce FloatOps.maximumf (Host.dotGeneral dot_S1024x256_S256x16_S1024x16_1_0_0_1_n_n none x rw) (constant S_ .f32 0xFF800000#32) reducesTo_S1024x16_S1024_d1 h_S_))))) (constant S_ .f32 0x00000000#32) reducesTo_S1024x16_S1024_d1 h_S_)))) (shapeCast _ (select (cmpi .slt (minsi (broadcastInDim S1024x1 ![] bcast_S_S1024x1 (id (constantI S_ 32 15#32))) (maxsi (broadcastInDim S1024x1 ![] bcast_S_S1024x1 (id (constantI S_ 32 0#32))) ix)) (broadcastInDim S1024x1 ![] bcast_S_S1024x1 (constantI S_ 32 0#32))) (addi (minsi (broadcastInDim S1024x1 ![] bcast_S_S1024x1 (id (constantI S_ 32 15#32))) (maxsi (broadcastInDim S1024x1 ![] bcast_S_S1024x1 (id (constantI S_ 32 0#32))) ix)) (broadcastInDim S1024x1 ![] bcast_S_S1024x1 (constantI S_ 32 16#32))) (minsi (broadcastInDim S1024x1 ![] bcast_S_S1024x1 (id (constantI S_ 32 15#32))) (maxsi (broadcastInDim S1024x1 ![] bcast_S_S1024x1 (id (constantI S_ 32 0#32))) ix))) shapeCasts_S1024x1_S1024x1x1)) (broadcastInDim S1024x1 ![] bcast_S_S1024x1 (id (constant S_ .f32 0x00000000#32))))) (Host.dotGeneral dot_S1024x256_S1024x256x512_S1024x512_1_1_n_2_0_0 none x (Host.gather gather_S16x256x512_S1024x1_S1024x256x512_12_0_n_n_0_1_1256512 ew (broadcastInDim S1024x1 ![0] bcast_S1024_S1024x1_0 (shapeCast _ (minsi (broadcastInDim S1024x1 ![] bcast_S_S1024x1 (id (constantI S_ 32 15#32))) (maxsi (broadcastInDim S1024x1 ![] bcast_S_S1024x1 (id (constantI S_ 32 0#32))) ix)) shapeCasts_S1024x1_S1024)))))

/-- The softmax of the reference, at an index. -/
theorem softmax_apply (x : FVec Ideal S1024x256 .f32) (rw : FVec Ideal S256x16 .f32) (t : Fin 1024) (e : Fin 16) : (Host.divf (Host.exp (subf (Host.dotGeneral dot_S1024x256_S256x16_S1024x16_1_0_0_1_n_n none x rw) (broadcastInDim S1024x16 ![0, 1] bcast_S1024x1_S1024x16_0_1 (broadcastInDim S1024x1 ![0] bcast_S1024_S1024x1_0 (Host.reduce FloatOps.maximumf (Host.dotGeneral dot_S1024x256_S256x16_S1024x16_1_0_0_1_n_n none x rw) (constant S_ .f32 0xFF800000#32) reducesTo_S1024x16_S1024_d1 h_S_))))) (broadcastInDim S1024x16 ![0, 1] bcast_S1024x1_S1024x16_0_1 (broadcastInDim S1024x1 ![0] bcast_S1024_S1024x1_0 (Host.reduceAdd (Host.exp (subf (Host.dotGeneral dot_S1024x256_S256x16_S1024x16_1_0_0_1_n_n none x rw) (broadcastInDim S1024x16 ![0, 1] bcast_S1024x1_S1024x16_0_1 (broadcastInDim S1024x1 ![0] bcast_S1024_S1024x1_0 (Host.reduce FloatOps.maximumf (Host.dotGeneral dot_S1024x256_S256x16_S1024x16_1_0_0_1_n_n none x rw) (constant S_ .f32 0xFF800000#32) reducesTo_S1024x16_S1024_d1 h_S_))))) (constant S_ .f32 0x00000000#32) reducesTo_S1024x16_S1024_d1 h_S_)))) (ix2 t e) = prob (scores (fun k => x (ix2 t k)) rw) e := by
  pointwise
  rw [ofBits_neg_inf]
  rfl

/-- The reference's result at an index: the shared expert's row and the named expert's weighted row. -/
theorem refOut_apply (x : FVec Ideal S1024x256 .f32) (rw : FVec Ideal S256x16 .f32) (ix : IVec S1024x1 32) (ew : FVec Ideal S16x256x512 .f32) (sw : FVec Ideal S256x512 .f32) (j : S1024x512.Idx) :
    refOut x rw ix ew sw j = ∑ k : Fin 256, x (ix2 (j 0) k) * sw (ix2 k (j 1))
      + routed (scores (fun k => x (ix2 (j 0) k)) rw) (ix (ix2 (j 0) 0)) (fun k => x (ix2 (j 0) k)) (fun e k => ew (ix3 e k (j 1))) := by
  have hp := softmax_apply x rw (j 0)
  unfold refOut
  generalize (Host.divf (Host.exp (subf (Host.dotGeneral dot_S1024x256_S256x16_S1024x16_1_0_0_1_n_n none x rw) (broadcastInDim S1024x16 ![0, 1] bcast_S1024x1_S1024x16_0_1 (broadcastInDim S1024x1 ![0] bcast_S1024_S1024x1_0 (Host.reduce FloatOps.maximumf (Host.dotGeneral dot_S1024x256_S256x16_S1024x16_1_0_0_1_n_n none x rw) (constant S_ .f32 0xFF800000#32) reducesTo_S1024x16_S1024_d1 h_S_))))) (broadcastInDim S1024x16 ![0, 1] bcast_S1024x1_S1024x16_0_1 (broadcastInDim S1024x1 ![0] bcast_S1024_S1024x1_0 (Host.reduceAdd (Host.exp (subf (Host.dotGeneral dot_S1024x256_S256x16_S1024x16_1_0_0_1_n_n none x rw) (broadcastInDim S1024x16 ![0, 1] bcast_S1024x1_S1024x16_0_1 (broadcastInDim S1024x1 ![0] bcast_S1024_S1024x1_0 (Host.reduce FloatOps.maximumf (Host.dotGeneral dot_S1024x256_S256x16_S1024x16_1_0_0_1_n_n none x rw) (constant S_ .f32 0xFF800000#32) reducesTo_S1024x16_S1024_d1 h_S_))))) (constant S_ .f32 0x00000000#32) reducesTo_S1024x16_S1024_d1 h_S_)))) = p at hp ⊢
  have hc : (ix (ix2 (j 0) 0)).toNat < 16 → (minsi (broadcastInDim S1024x1 ![] bcast_S_S1024x1 (id (constantI S_ 32 15#32))) (maxsi (broadcastInDim S1024x1 ![] bcast_S_S1024x1 (id (constantI S_ 32 0#32))) ix)) (ix2 (j 0) 0) = ix (ix2 (j 0) 0) := fun hw => by
    pointwise
    exact clip_named _ hw
  generalize (minsi (broadcastInDim S1024x1 ![] bcast_S_S1024x1 (id (constantI S_ 32 15#32))) (maxsi (broadcastInDim S1024x1 ![] bcast_S_S1024x1 (id (constantI S_ 32 0#32))) ix)) = q at hc ⊢
  pointwise
  refine congrArg₂ (· + ·) rfl ?_
  rw [select_named]
  by_cases hw : (ix (ix2 (j 0) 0)).toNat < 16
  · rw [if_pos hw, routed, dif_pos hw, gather_prob p _ (j 0) (ix (ix2 (j 0) 0)).toNat hw, hp]
    · refine congrArg _ (Finset.sum_congr rfl fun k _ => congrArg _ ?_)
      refine gather_weight ew _ (j 0) k (j 1) (ix (ix2 (j 0) 0)).toNat hw ?_
      refine (congrArg (fun v : BitVec 32 => v.toInt.toNat) (?_ : _ = ix (ix2 (j 0) 0))).trans (toInt_named _ hw)
      pointwise
      exact hc hw
    · refine (congrArg (fun v : BitVec 32 => v.toInt.toNat) (?_ : _ = ix (ix2 (j 0) 0))).trans (toInt_named _ hw)
      pointwise
      rw [hc hw]
      exact wrap_named _ hw
  · rw [if_neg hw, routed, dif_neg hw]
    refine (congrArg (· * _) (?_ : _ = (0 : EReal))).trans (zero_mul _)
    show Ideal.ofBits .f32 0#32 = 0
    simp [Ideal.ofBits, Ideal.ieee]

end Gathers

end Cert.MoeProof

end
-- ==== Proof.Value.lean ====
/-
# The kernel's result, at an index
-/
module

public import proofs.«01_k».proof.Proof.Chunk
public import proofs.«01_k».proof.Proof.RefValue
public import proofs.«01_k».proof.Proof.Run

@[expose] public section

set_option maxRecDepth 16384

noncomputable section

namespace Cert.MoeProof

open Cert.KernelIdeal Cert.KernelIdeal.Gen
open Idealize.ShloMosaic Idealize.ShloMosaic.TcCoe

variable (m : (ℓ : Loc nD τ sig) → Buf (Elt Ideal) ℓ) (ρ : Dev nD → PrngReg)

/-! ## What is staged is what the buffers hold -/

/-- The whole array of tokens is staged. -/
theorem xstg_eq (c : Dev nD) : xstg m ρ c = m ((c : Thread nD τ).loc main_arg0) := Memref.read_access_unit_zero _ _ (funext fun a => by fin_cases a <;> rfl) _ _
/-- The whole array of the router's weights is staged. -/
theorem rwstg_eq (c : Dev nD) : rwstg m ρ c = m ((c : Thread nD τ).loc main_arg1) := Memref.read_access_unit_zero _ _ (funext fun a => by fin_cases a <;> rfl) _ _
/-- The whole array of indices is staged. -/
theorem ixstg_eq (c : Dev nD) : ixstg m ρ c = m ((c : Thread nD τ).loc main_arg2) := Memref.read_access_unit_zero _ _ (funext fun a => by fin_cases a <;> rfl) _ _
/-- The whole array of the experts' weights is staged. -/
theorem ewstg_eq (c : Dev nD) : ewstg m ρ c = m ((c : Thread nD τ).loc main_arg3) := Memref.read_access_unit_zero _ _ (funext fun a => by fin_cases a <;> rfl) _ _
/-- The whole array of the shared expert's weights is staged. -/
theorem swstg_eq (c : Dev nD) : swstg m ρ c = m ((c : Thread nD τ).loc main_arg4) := Memref.read_access_unit_zero _ _ (funext fun a => by fin_cases a <;> rfl) _ _

/-- Row `r` of device `c`'s rows of the whole array. -/
def tok (c : Dev nD) (r : Fin 256) : Fin 1024 := ⟨256 * c.val + r.val, by have h : c.val < 4 := c.isLt; omega⟩

/-- The token rows that the device behind `c` reads for `c` start at `256 * c`. -/
theorem off1 (h : Fin 3) (c : Dev nD) : k0_off1 (bwd h c) (BitVec.ofNat 32 (1 + h.val)) = ![256 * c.val, 0] := by revert h c; decide +kernel
/-- The index rows that the device behind `c` reads for `c` start at `256 * c`. -/
theorem off2 (h : Fin 3) (c : Dev nD) : k0_off2 (bwd h c) (BitVec.ofNat 32 (1 + h.val)) = ![256 * c.val, 0] := by revert h c; decide +kernel
/-- A device's own token rows start at `256 * c`. -/
theorem off3 (c : Dev nD) : k0_off3 c = ![256 * c.val, 0] := by revert c; decide +kernel
/-- A device's own index rows start at `256 * c`. -/
theorem off4 (c : Dev nD) : k0_off4 c = ![256 * c.val, 0] := by revert c; decide +kernel

/-- A load of device `c`'s rows of the tokens. -/
theorem read_x (c : Dev nD) {off : Fin 2 → ℕ} (ho : off = ![256 * c.val, 0]) (inb : ∀ a, off a + S256x256.size a ≤ S1024x256.size a)
    (f : (cc0_stg0_0 : Ref sig .tc).ty.Contents (Elt Ideal)) (r k : Fin 256) :
    xM.view.readAt (Elt Ideal) (Rect.unit (s := S1024x256) off S256x256.size inb).toLoadRect f (ix2 r k) = f (ix2 (tok c r) k) := by
  subst ho
  refine congrArg f (funext fun a => Fin.ext ?_)
  fin_cases a
  · show 256 * c.val + 1 * r.val = 256 * c.val + r.val
    omega
  · show 0 + 1 * k.val = k.val
    omega
/-- A load of device `c`'s rows of the indices. -/
theorem read_i (c : Dev nD) {off : Fin 2 → ℕ} (ho : off = ![256 * c.val, 0]) (inb : ∀ a, off a + S256x1.size a ≤ S1024x1.size a)
    (f : (cc0_stg2_0 : Ref sig .tc).ty.Contents (Elt Ideal)) (r : Fin 256) :
    ixM.view.readAt (Elt Ideal) (Rect.unit (s := S1024x1) off S256x1.size inb).toLoadRect f (ix2 r 0) = f (ix2 (tok c r) 0) := by
  subst ho
  refine congrArg f (funext fun a => Fin.ext ?_)
  fin_cases a
  · show 256 * c.val + 1 * r.val = 256 * c.val + r.val
    omega
  · rfl
/-- A load of all the router's weights yields them. -/
theorem read_rw (f : (cc0_stg1_0 : Ref sig .tc).ty.Contents (Elt Ideal)) : rwM.view.readAt (Elt Ideal) rRw.toLoadRect f = f :=
  Memref.readAt_unit_zero _ _ (funext fun a => by fin_cases a <;> rfl) _ _
/-- A load of all the experts' weights yields them. -/
theorem read_ew (f : (cc0_stg3_0 : Ref sig .tc).ty.Contents (Elt Ideal)) : ewM.view.readAt (Elt Ideal) rEw.toLoadRect f = f :=
  Memref.readAt_unit_zero _ _ (funext fun a => by fin_cases a <;> rfl) _ _
/-- A load of all the shared expert's weights yields them. -/
theorem read_sw (f : (cc0_stg4_0 : Ref sig .tc).ty.Contents (Elt Ideal)) : swM.view.readAt (Elt Ideal) rSw.toLoadRect f = f :=
  Memref.readAt_unit_zero _ _ (funext fun a => by fin_cases a <;> rfl) _ _

/-- The result's window covers the whole array: its buffer ends with what the kernel stored. -/
theorem final_out (c : Dev nD) : finalA m ρ c 5 = outAt m ρ c := by
  have h : (win0_5.blk (0 : Fin 1)).view.read (Elt Ideal) (finalA m ρ c 5) = outAt m ρ c := by
    have e := (dats m ρ 0 c).arrAt_succ (5 : Fin 6) (0 : Fin 1)
    rw [if_pos (show (cfg0.win 5).flush (0 : Fin 1) = true by decide)] at e
    exact (congrArg _ e).trans (View.read_write_univ _ _)
  exact (Memref.read_access_unit_zero _ _ (funext fun a => by fin_cases a <;> rfl) _ _).symm.trans h

/-- Where the arrays of the four devices agree with whole arrays: `x`, `router_W`, the indices and `shared_W` are copies, the
    experts' weights are cut in four. -/
structure Holds (x : S1024x256.Idx → EReal) (rw : S256x16.Idx → EReal) (ix : S1024x1.Idx → BitVec 32) (W : Fin 16 → Fin 256 → Fin 512 → EReal)
    (sw : S256x512.Idx → EReal) : Prop where
  hx : ∀ c : Dev nD, m ((c : Thread nD τ).loc main_arg0) = x
  hr : ∀ c : Dev nD, m ((c : Thread nD τ).loc main_arg1) = rw
  hi : ∀ c : Dev nD, m ((c : Thread nD τ).loc main_arg2) = ix
  hw : ∀ (c : Dev nD) (e : Fin 4) (k : Fin 256) (h : Fin 512), (m ((c : Thread nD τ).loc main_arg3) : S4x256x512.Idx → EReal) (ix3 e k h) = W ⟨4 * c.val + e.val, by have h : c.val < 4 := c.isLt; omega⟩ k h
  hs : ∀ c : Dev nD, m ((c : Thread nD τ).loc main_arg4) = sw

variable {m} {x : S1024x256.Idx → EReal} {rw : S256x16.Idx → EReal} {ix : S1024x1.Idx → BitVec 32} {W : Fin 16 → Fin 256 → Fin 512 → EReal} {sw : S256x512.Idx → EReal}

/-- What device `d`'s experts add to the tokens of device `c`, wherever it reads them, is `share d` of each token. -/
theorem part_share (H : Holds m x rw ix W sw) (d c : Dev nD) {off off' : Fin 2 → ℕ} (ho : off = ![256 * c.val, 0]) (ho' : off' = ![256 * c.val, 0])
    (inb : ∀ a, off a + S256x256.size a ≤ S1024x256.size a) (inb' : ∀ a, off' a + S256x1.size a ≤ S1024x1.size a) (j : S256x512.Idx) :
    part (F := Ideal) (pos d) (xM.view.readAt (Elt Ideal) (Rect.unit (s := S1024x256) off S256x256.size inb).toLoadRect (xstg m ρ d))
      (ixM.view.readAt (Elt Ideal) (Rect.unit (s := S1024x1) off' S256x1.size inb').toLoadRect (ixstg m ρ d))
      (rwM.view.readAt (Elt Ideal) rRw.toLoadRect (rwstg m ρ d)) (ewM.view.readAt (Elt Ideal) rEw.toLoadRect (ewstg m ρ d)) j
    = share d (ix (ix2 (tok c (j 0)) 0)) (gate (scores (fun k => x (ix2 (tok c (j 0)) k)) rw) (ix (ix2 (tok c (j 0)) 0)))
        (fun k => x (ix2 (tok c (j 0)) k)) (fun e k => W e k (j 1)) := by
  rw [part_apply, read_rw, read_ew, xstg_eq, ixstg_eq, rwstg_eq, ewstg_eq, H.hx, H.hi, H.hr]
  have e1 : ∀ r k : Fin 256, xM.view.readAt (Elt Ideal) (Rect.unit (s := S1024x256) off S256x256.size inb).toLoadRect x (ix2 r k) = x (ix2 (tok c r) k) :=
    read_x c ho inb x
  have e2 : ∀ r : Fin 256, ixM.view.readAt (Elt Ideal) (Rect.unit (s := S1024x1) off' S256x1.size inb').toLoadRect ix (ix2 r 0) = ix (ix2 (tok c r) 0) :=
    read_i c ho' inb' ix
  unfold share
  refine Finset.sum_congr rfl fun e _ => Finset.sum_congr rfl fun k _ => ?_
  refine congrArg₂ (· * ·) ?_ (H.hw d e k (j 1))
  rw [e2 (j 0), e1 (j 0), show (fun k => _) = (fun k => x (ix2 (tok c (j 0)) k)) from funext (e1 (j 0))]

/-- A device and the three behind it are the four devices. -/
theorem sum_ring (S : Dev nD → EReal) (a : EReal) (c : Dev nD) : S c + a + S (bwd 2 c) + S (bwd 1 c) + S (bwd 0 c) = a + ∑ d : Fin 4, S d := by
  rw [Fin.sum_univ_four]
  have h : ∀ c : Dev nD, (c = 0 ∧ bwd 2 c = 1 ∧ bwd 1 c = 2 ∧ bwd 0 c = 3) ∨ (c = 1 ∧ bwd 2 c = 2 ∧ bwd 1 c = 3 ∧ bwd 0 c = 0)
      ∨ (c = 2 ∧ bwd 2 c = 3 ∧ bwd 1 c = 0 ∧ bwd 0 c = 1) ∨ (c = 3 ∧ bwd 2 c = 0 ∧ bwd 1 c = 1 ∧ bwd 0 c = 2) := by decide
  rcases h c with ⟨h0, h1, h2, h3⟩ | ⟨h0, h1, h2, h3⟩ | ⟨h0, h1, h2, h3⟩ | ⟨h0, h1, h2, h3⟩ <;> rw [h1, h2, h3, h0] <;> ac_rfl

/-- The kernel's result on device `c`, entry by entry: the shared expert's row, and the sum over the devices of their shares. -/
theorem outAt_apply (H : Holds m x rw ix W sw) (c : Dev nD) (j : S256x512.Idx) :
    (outAt m ρ c : S256x512.Idx → EReal) j = ∑ k : Fin 256, x (ix2 (tok c (j 0)) k) * sw (ix2 k (j 1))
      + ∑ d : Fin 4, share d (ix (ix2 (tok c (j 0)) 0)) (gate (scores (fun k => x (ix2 (tok c (j 0)) k)) rw) (ix (ix2 (tok c (j 0)) 0)))
        (fun k => x (ix2 (tok c (j 0)) k)) (fun e k => W e k (j 1)) := by
  refine (total_apply _ _ _ _ _ j).trans ?_
  have hown := part_share ρ H c c (off3 c) (off4 c) (k0_off3_inb c) (k0_off4_inb c) j
  have hsent : ∀ h : Fin 3, _ := fun h => part_share ρ H (bwd h c) c (off1 h c) (off2 h c) (k0_off1_inb (bwd h c) h) (k0_off2_inb (bwd h c) h) j
  rw [hsent 0, hsent 1, hsent 2, show ownPart m ρ c j = _ from hown, shared_apply, read_sw, xstg_eq, swstg_eq, H.hx, H.hs]
  rw [show (∑ k : Fin 256, _ * _ : EReal) = ∑ k : Fin 256, x (ix2 (tok c (j 0)) k) * sw (ix2 k (j 1)) from
    Finset.sum_congr rfl fun k _ => congrArg (· * _) (read_x c (off3 c) (k0_off3_inb c) x (j 0) k)]
  exact sum_ring (fun d : Fin 4 => share d (ix (ix2 (tok c (j 0)) 0)) (gate (scores (fun k => x (ix2 (tok c (j 0)) k)) rw) (ix (ix2 (tok c (j 0)) 0)))
        (fun k => x (ix2 (tok c (j 0)) k)) (fun e k => W e k (j 1))) _ c

/-- The finite numbers, from the two comparisons. -/
theorem finite_of_cmp (v : EReal) (h : IntOp.andi (BitVec.ofBool (decide (Ideal.ofBits .f32 0xFF800000#32 < v))) (BitVec.ofBool (decide (v < Ideal.ofBits .f32 0x7F800000#32))) = 1#1) :
    ∃ r : ℝ, v = r := by
  rw [ofBits_neg_inf, ofBits_pos_inf] at h
  induction v using EReal.rec with
  | bot => simp [IntOp.andi] at h
  | top => simp [IntOp.andi] at h
  | coe r => exact ⟨r, rfl⟩

/-- Finite tokens and router weights have finite scores. -/
theorem scores_finite (x : Fin 256 → EReal) (rw : S256x16.Idx → EReal) (hx : ∀ k, ∃ r : ℝ, x k = r) (hr : ∀ i, ∃ r : ℝ, rw i = r) (j : Fin 16) :
    ∃ r : ℝ, scores x rw j = r :=
  finite_sum _ _ fun k => by
    obtain ⟨a, ha⟩ := hx k
    obtain ⟨b, hb⟩ := hr (ix2 k j)
    exact ⟨a * b, by rw [ha, hb, EReal.coe_mul]⟩

end Cert.MoeProof

end
-- ==== Proof.lean ====
/-
The proof of `Cert.Claim`: the three frames with every semaphore counter at zero at the end, the rewrites of the ideal program (there
are none), and the value equation of the kernel with the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.MoeProof

/-- At any float values the kernel's program ends, its arguments are as they were, every counter is zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c 0).trans (final_in m ρ c 0 rfl), (h.1 c 1).trans (final_in m ρ c 1 rfl), (h.1 c 2).trans (final_in m ρ c 2 rfl),
      (h.1 c 3).trans (final_in m ρ c 3 rfl), (h.1 c 4).trans (final_in m ρ c 4 rfl)⟩, h.2⟩)
    (run_main m ρ)

/-- The two programs have one body table. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))
/-- The two programs have the same definitions. -/
theorem defs_eq : Cert.Kernel.defs (F := Bits) = Cert.KernelIdeal.defs (F := Bits) := by
  unfold Cert.Kernel.defs Cert.KernelIdeal.defs; rw [bodies_eq]; rfl
/-- The bit-exact kernel: its text is the ideal program's. -/
theorem frame_kernel : Cert.quiescent_Kernel := fun m ρ _ => by
  rw [defs_eq]; exact frame_any (F := Bits) m ρ
/-- The ideal kernel. -/
theorem frame_ideal : Cert.quiescent_KernelIdeal := fun m ρ _ => frame_any (F := Ideal) m ρ

/-- The reference: it ends, its arguments are as they were; it has no semaphores at all. -/
theorem frame_reference : Cert.quiescent_ReferenceIdeal := fun m ρ _ =>
  (θ_run Cert.ReferenceIdeal.defs _ _).mono
    (fun _ h => ⟨fun c => (h c).2, funext fun g => by rcases g with ⟨_, s | q⟩; exact s.elim0; exact q.elim0⟩)
    (Cert.ReferenceIdeal.Value.run (F := Ideal) m ρ)

/-- The side conditions of the precondition's text, over the kernel's arrays. -/
theorem pre_facts : Cert.Pre_finite_router_KernelIdeal.Facts := ⟨by decide, by decide⟩
/-- The side conditions of the precondition's text, over the reference's arrays. -/
theorem pre_facts_reference : Cert.Pre_finite_router_ReferenceIdeal.Facts := ⟨by decide, by decide⟩

/-- The precondition: every token entry and every router weight is a real number. -/
theorem finite_inputs [Cert.Pre_finite_router_KernelIdeal.Facts] (m : (ℓ : Loc Cert.KernelIdeal.nD Cert.KernelIdeal.τ Cert.KernelIdeal.sig) → Buf (Elt Ideal) ℓ)
    (h : Cert.Pre_KernelIdeal_finite_router_KernelIdeal m) (c : Dev Cert.KernelIdeal.nD) :
    (∀ i : Cert.KernelIdeal.S1024x256.Idx, ∃ r : ℝ, m ((c.tc : Thread Cert.KernelIdeal.nD Cert.KernelIdeal.τ).loc Cert.KernelIdeal.main_arg0) i = (r : EReal))
      ∧ ∀ i : Cert.KernelIdeal.S256x16.Idx, ∃ r : ℝ, m ((c.tc : Thread Cert.KernelIdeal.nD Cert.KernelIdeal.τ).loc Cert.KernelIdeal.main_arg1) i = (r : EReal) :=
  ⟨fun i => finite_of_cmp _ (congrFun (h c).1 i), fun i => finite_of_cmp _ (congrFun (h c).2 i)⟩

/-- If the arrays agree and the router's inputs are finite, device `c` stores its block of rows of the reference's result. -/
theorem out_block (m : (ℓ : Loc Cert.KernelIdeal.nD Cert.KernelIdeal.τ Cert.KernelIdeal.sig) → Buf (Elt Ideal) ℓ) (g : Dev Cert.KernelIdeal.nD → PrngReg)
    (x : FVec Ideal Cert.ReferenceIdeal.S1024x256 .f32) (rw : FVec Ideal Cert.ReferenceIdeal.S256x16 .f32) (ix : IVec Cert.ReferenceIdeal.S1024x1 32)
    (ew : FVec Ideal Cert.ReferenceIdeal.S16x256x512 .f32) (sw : FVec Ideal Cert.ReferenceIdeal.S256x512 .f32)
    (H : Holds m x rw ix (fun e k h => ew (ix3 e k h)) sw) (hx : ∀ i, ∃ r : ℝ, x i = (r : EReal)) (hr : ∀ i, ∃ r : ℝ, rw i = (r : EReal)) (c : Dev Cert.KernelIdeal.nD) :
    outAt m g c = Layout.block ⟨2, ![256, 512]⟩ ⟨2, ![1024, 512]⟩ 0 4 c (refOut x rw ix ew sw) := by
  funext j
  refine (outAt_apply g H c j).trans ?_
  rw [shares_eq _ (scores_finite _ _ (fun k => hx _) hr), Layout.block_apply]
  have ht : (show Layout.Tiles ⟨2, ![256, 512]⟩ ⟨2, ![1024, 512]⟩ 0 4 by decide).idx c j = ix2 (tok c (j 0)) (j 1) := by
    funext a
    apply Fin.ext
    rw [Layout.Tiles.idx_val]
    fin_cases a
    · show c.val * 256 + (j 0).val = 256 * c.val + (j 0).val
      omega
    · rfl
  rw [ht]
  exact (refOut_apply x rw ix ew sw (ix2 (tok c (j 0)) (j 1))).symm

/-- The kernel computes the reference: each device ends with its block of rows of the reference's result. -/
theorem values [Cert.Pre_finite_router_KernelIdeal.Facts] : Cert.algebraic_KernelIdeal_ReferenceIdeal_pre_finite_router_KernelIdeal := fun m g m' g' hpre hin => by
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (fun e k h => m' (((0 : Dev Cert.ReferenceIdeal.nD).tc : Thread Cert.ReferenceIdeal.nD Cert.ReferenceIdeal.τ).loc Cert.ReferenceIdeal.main_arg3) (ix3 e k h))
      (m' (((0 : Dev Cert.ReferenceIdeal.nD).tc : Thread Cert.ReferenceIdeal.nD Cert.ReferenceIdeal.τ).loc Cert.ReferenceIdeal.main_arg4)) :=
    ⟨fun c => (hin c).1, fun c => (hin c).2.1, fun c => (hin c).2.2.1, fun c e k h => by
      refine (congrFun (hin c).2.2.2.1 (ix3 e k h)).trans (congrArg (m' _) (funext fun a => Fin.ext ?_))
      rw [Layout.Tiles.idx_val]
      fin_cases a
      · show c.val * 4 + e.val = 4 * c.val + e.val
        omega
      · rfl
      · rfl, fun c => (hin c).2.2.2.2⟩
  have hfin := finite_inputs m hpre 0
  rw [(hin 0).1, (hin 0).2.1] at hfin
  refine ⟨refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)), ?_, ?_⟩
  · exact (θ_run Cert.KernelIdeal.defs _ _).mono (fun r h c => ⟨(h.1 c 5).trans ((final_out m g c).trans (out_block m g _ _ _ _ _ H hfin.1 hfin.2 c)),
      (h.1 c 0).trans (final_in m g c 0 rfl), (h.1 c 1).trans (final_in m g c 1 rfl),
      (h.1 c 2).trans (final_in m g c 2 rfl), (h.1 c 3).trans (final_in m g c 3 rfl), (h.1 c 4).trans (final_in m g c 4 rfl)⟩) (run_main m g)
  · exact (θ_run Cert.ReferenceIdeal.defs _ _).mono (fun _ h => h 0) (Cert.ReferenceIdeal.Value.run (F := Ideal) m' g')

/-- Everything claimed. -/
theorem claim : Cert.Claim := ⟨Cert.Kernel.Gen.facts, Cert.KernelIdeal.Gen.facts, Cert.ReferenceIdeal.Gen.facts, pre_facts, pre_facts_reference,
  frame_kernel, frame_ideal, fun m ρ _ => frame_any (F := Ideal) m ρ, frame_reference, fun m ρ _ => frame_reference m ρ trivial, trivial,
  @values pre_facts⟩

end Cert.Proof

end
